-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_and_finite [hPre_no_tie_and_finite : Cert.Pre_no_tie_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_and_finite [hPre_no_tie_and_finite : Cert.Pre_no_tie_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_tie_and_finite [hKernelIdeal : Cert.KernelIdeal.Facts] [hPre_no_tie_and_finite : Cert.Pre_no_tie_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie_and_finite [hReferenceIdeal : Cert.ReferenceIdeal.Facts] [hPre_no_tie_and_finite : Cert.Pre_no_tie_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_no_tie_and_finite [hKernelIdeal : Cert.KernelIdeal.Facts] [hReferenceIdeal : Cert.ReferenceIdeal.Facts] [hPre_no_tie_and_finite : Cert.Pre_no_tie_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie_and_finite : Cert.Pre_no_tie_and_finite.Facts),
    quiescent_Kernel (hKernel := hKernel)
    ∧ quiescent_KernelIdeal (hKernelIdeal := hKernelIdeal)
    ∧ quiescent_KernelIdeal_pre_no_tie_and_finite (hKernelIdeal := hKernelIdeal) (hPre_no_tie_and_finite := hPre_no_tie_and_finite)
    ∧ quiescent_ReferenceIdeal (hReferenceIdeal := hReferenceIdeal)
    ∧ quiescent_ReferenceIdeal_pre_no_tie_and_finite (hReferenceIdeal := hReferenceIdeal) (hPre_no_tie_and_finite := hPre_no_tie_and_finite)
    ∧ preserves_Kernel_KernelIdeal
    ∧ algebraic_KernelIdeal_ReferenceIdeal_pre_no_tie_and_finite (hKernelIdeal := hKernelIdeal) (hReferenceIdeal := hReferenceIdeal) (hPre_no_tie_and_finite := hPre_no_tie_and_finite)
-- ==== Pre_no_tie_and_finite.lean ====
abbrev S8192x128 : Shape := ⟨2, ![8192, 128]⟩
abbrev S128x128 : Shape := ⟨2, ![128, 128]⟩
abbrev S_ : Shape := ⟨0, ![]⟩
abbrev S128x8192 : Shape := ⟨2, ![128, 8192]⟩
abbrev S8192x8192 : Shape := ⟨2, ![8192, 8192]⟩
abbrev S8192x33 : Shape := ⟨2, ![8192, 33]⟩
abbrev S8192x1 : Shape := ⟨2, ![8192, 1]⟩
abbrev S8192 : Shape := ⟨1, ![8192]⟩

class Facts : Prop where
  transposes_S128x128_S128x128_1_0 : S128x128.Transposes [1, 0] S128x128
  bcast_S_S8192x128 : S_.BroadcastsInDim S8192x128 (![] : Fin 0 → Fin S8192x128.rank)
  transposes_S8192x128_S128x8192_1_0 : S8192x128.Transposes [1, 0] S128x8192
  sliceFits_S8192x8192_S8192x33 : S8192x8192.Slices (fun _ => 0) S8192x33
  slices_S8192x33_S8192x1_0_32 : S8192x33.Slices ![0, 32] S8192x1
  shapeCasts_S8192x1_S8192 : S8192x1.ShapeCasts S8192
  slices_S8192x33_S8192x1_0_31 : S8192x33.Slices ![0, 31] S8192x1
  slices_S8192x33_S8192x1_0_0 : S8192x33.Slices ![0, 0] S8192x1
  bcast_S_S8192 : S_.BroadcastsInDim S8192 (![] : Fin 0 → Fin S8192.rank)
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def fn_relu {F : FTy → Type} [FloatOps F] (arg0 : FVec F S8192x128 .f32) : FVec F S8192x128 .f32 :=
  let cst : FVec F S_ .f32 := constant S_ .f32 0x00000000#32
  let v0 : FVec F S8192x128 .f32 := broadcastInDim S8192x128 ![] bcast_S_S8192x128 cst
  let v1 : FVec F S8192x128 .f32 := maximumf arg0 v0
  v1

def fn {F : FTy → Type} [FloatOps F] (main_arg0 : FVec F S8192x128 .f32) (main_arg1 : FVec F S128x128 .f32) : IVec S8192 1 :=
  let main_v0 : FVec F S128x128 .f32 := (transpose S128x128 [1, 0] · transposes_S128x128_S128x128_1_0) main_arg1
  let main_v1 : FVec F S8192x128 .f32 := (fun l r => Host.dotGeneral dot_S8192x128_S128x128_S8192x128_1_0_0_1_n_n none l r) main_arg0 main_v0
  let main_v2 : FVec F S8192x128 .f32 := fn_relu (F := F) main_v1
  let main_v3 : FVec F S128x8192 .f32 := (transpose S128x8192 [1, 0] · transposes_S8192x128_S128x8192_1_0) main_v2
  let main_v4 : FVec F S8192x8192 .f32 := (fun l r => Host.dotGeneral dot_S8192x128_S128x8192_S8192x8192_1_0_0_1_n_n none l r) main_v2 main_v3
  let main_values : FVec F S8192x33 .f32 := (fun x => (Host.topK S8192x33 1 (FloatOps.cmpfTotal .gt) x sliceFits_S8192x8192_S8192x33).1) main_v4
  let main_indices : IVec S8192x33 32 := (fun x => (Host.topK S8192x33 1 (FloatOps.cmpfTotal .gt) x sliceFits_S8192x8192_S8192x33).2) main_v4
  let main_v5 : FVec F S8192x1 .f32 := (extractStridedSlice S8192x1 ![0, 32] · slices_S8192x33_S8192x1_0_32) main_values
  let main_v6 : FVec F S8192 .f32 := shapeCast S8192 main_v5 shapeCasts_S8192x1_S8192
  let main_v7 : FVec F S8192x1 .f32 := (extractStridedSlice S8192x1 ![0, 31] · slices_S8192x33_S8192x1_0_31) main_values
  let main_v8 : FVec F S8192 .f32 := shapeCast S8192 main_v7 shapeCasts_S8192x1_S8192
  let main_v9 : IVec S8192 1 := cmpf .olt main_v6 main_v8
  let main_v10 : FVec F S8192x1 .f32 := (extractStridedSlice S8192x1 ![0, 0] · slices_S8192x33_S8192x1_0_0) main_values
  let main_v11 : FVec F S8192 .f32 := shapeCast S8192 main_v10 shapeCasts_S8192x1_S8192
  let main_cst : FVec F S_ .f32 := constant S_ .f32 0x7F800000#32
  let main_v12 : FVec F S8192 .f32 := broadcastInDim S8192 ![] bcast_S_S8192 main_cst
  let main_v13 : IVec S8192 1 := cmpf .olt main_v11 main_v12
  let main_v14 : IVec S8192 1 := andi main_v9 main_v13
  main_v14
-- ==== Kernel.lean ====
abbrev S8192x128 : Shape := ⟨2, ![8192, 128]⟩
abbrev S128x128 : Shape := ⟨2, ![128, 128]⟩
abbrev S32x256x128 : Shape := ⟨3, ![32, 256, 128]⟩
abbrev S16x2x1x256x128 : Shape := ⟨5, ![16, 2, 1, 256, 128]⟩
abbrev S16x1x1x256x128 : Shape := ⟨5, ![16, 1, 1, 256, 128]⟩
abbrev S16x1x256x128 : Shape := ⟨4, ![16, 1, 256, 128]⟩
abbrev S16x1x1x1 : Shape := ⟨4, ![16, 1, 1, 1]⟩
abbrev S8x2x2x256x128 : Shape := ⟨5, ![8, 2, 2, 256, 128]⟩
abbrev S8x1x2x256x128 : Shape := ⟨5, ![8, 1, 2, 256, 128]⟩
abbrev S8x2x256x128 : Shape := ⟨4, ![8, 2, 256, 128]⟩
abbrev S8x1x1x1 : Shape := ⟨4, ![8, 1, 1, 1]⟩
abbrev S4x2x4x256x128 : Shape := ⟨5, ![4, 2, 4, 256, 128]⟩
abbrev S4x1x4x256x128 : Shape := ⟨5, ![4, 1, 4, 256, 128]⟩
abbrev S4x4x256x128 : Shape := ⟨4, ![4, 4, 256, 128]⟩
abbrev S4x1x1x1 : Shape := ⟨4, ![4, 1, 1, 1]⟩
abbrev S2x2x8x256x128 : Shape := ⟨5, ![2, 2, 8, 256, 128]⟩
abbrev S2x1x8x256x128 : Shape := ⟨5, ![2, 1, 8, 256, 128]⟩
abbrev S2x8x256x128 : Shape := ⟨4, ![2, 8, 256, 128]⟩
abbrev S2x1x1x1 : Shape := ⟨4, ![2, 1, 1, 1]⟩
abbrev S1x2x16x256x128 : Shape := ⟨5, ![1, 2, 16, 256, 128]⟩
abbrev S1x1x16x256x128 : Shape := ⟨5, ![1, 1, 16, 256, 128]⟩
abbrev S1x16x256x128 : Shape := ⟨4, ![1, 16, 256, 128]⟩
abbrev S32x128x128 : Shape := ⟨3, ![32, 128, 128]⟩
abbrev S1x128x128 : Shape := ⟨3, ![1, 128, 128]⟩
abbrev S1x2x16x128x128 : Shape := ⟨5, ![1, 2, 16, 128, 128]⟩
abbrev S1x1x16x128x128 : Shape := ⟨5, ![1, 1, 16, 128, 128]⟩
abbrev S1x16x128x128 : Shape := ⟨4, ![1, 16, 128, 128]⟩
abbrev S2x2x8x128x128 : Shape := ⟨5, ![2, 2, 8, 128, 128]⟩
abbrev S2x1x8x128x128 : Shape := ⟨5, ![2, 1, 8, 128, 128]⟩
abbrev S2x8x128x128 : Shape := ⟨4, ![2, 8, 128, 128]⟩
abbrev S4x2x4x128x128 : Shape := ⟨5, ![4, 2, 4, 128, 128]⟩
abbrev S4x1x4x128x128 : Shape := ⟨5, ![4, 1, 4, 128, 128]⟩
abbrev S4x4x128x128 : Shape := ⟨4, ![4, 4, 128, 128]⟩
abbrev S8x2x2x128x128 : Shape := ⟨5, ![8, 2, 2, 128, 128]⟩
abbrev S8x1x2x128x128 : Shape := ⟨5, ![8, 1, 2, 128, 128]⟩
abbrev S8x2x128x128 : Shape := ⟨4, ![8, 2, 128, 128]⟩
abbrev S16x2x1x128x128 : Shape := ⟨5, ![16, 2, 1, 128, 128]⟩
abbrev S16x1x1x128x128 : Shape := ⟨5, ![16, 1, 1, 128, 128]⟩
abbrev S16x1x128x128 : Shape := ⟨4, ![16, 1, 128, 128]⟩
abbrev S32x64x128 : Shape := ⟨3, ![32, 64, 128]⟩
abbrev S1x64x128 : Shape := ⟨3, ![1, 64, 128]⟩
abbrev S64x128 : Shape := ⟨2, ![64, 128]⟩
abbrev S1x2x16x64x128 : Shape := ⟨5, ![1, 2, 16, 64, 128]⟩
abbrev S1x1x16x64x128 : Shape := ⟨5, ![1, 1, 16, 64, 128]⟩
abbrev S1x16x64x128 : Shape := ⟨4, ![1, 16, 64, 128]⟩
abbrev S2x2x8x64x128 : Shape := ⟨5, ![2, 2, 8, 64, 128]⟩
abbrev S2x1x8x64x128 : Shape := ⟨5, ![2, 1, 8, 64, 128]⟩
abbrev S2x8x64x128 : Shape := ⟨4, ![2, 8, 64, 128]⟩
abbrev S4x2x4x64x128 : Shape := ⟨5, ![4, 2, 4, 64, 128]⟩
abbrev S4x1x4x64x128 : Shape := ⟨5, ![4, 1, 4, 64, 128]⟩
abbrev S4x4x64x128 : Shape := ⟨4, ![4, 4, 64, 128]⟩
abbrev S8x2x2x64x128 : Shape := ⟨5, ![8, 2, 2, 64, 128]⟩
abbrev S8x1x2x64x128 : Shape := ⟨5, ![8, 1, 2, 64, 128]⟩
abbrev S8x2x64x128 : Shape := ⟨4, ![8, 2, 64, 128]⟩
abbrev S16x2x1x64x128 : Shape := ⟨5, ![16, 2, 1, 64, 128]⟩
abbrev S16x1x1x64x128 : Shape := ⟨5, ![16, 1, 1, 64, 128]⟩
abbrev S16x1x64x128 : Shape := ⟨4, ![16, 1, 64, 128]⟩
abbrev S32x32x128 : Shape := ⟨3, ![32, 32, 128]⟩
abbrev S1x32x128 : Shape := ⟨3, ![1, 32, 128]⟩
abbrev S32x128 : Shape := ⟨2, ![32, 128]⟩
abbrev S1x2x16x32x128 : Shape := ⟨5, ![1, 2, 16, 32, 128]⟩
abbrev S1x1x16x32x128 : Shape := ⟨5, ![1, 1, 16, 32, 128]⟩
abbrev S1x16x32x128 : Shape := ⟨4, ![1, 16, 32, 128]⟩
abbrev S2x2x8x32x128 : Shape := ⟨5, ![2, 2, 8, 32, 128]⟩
abbrev S2x1x8x32x128 : Shape := ⟨5, ![2, 1, 8, 32, 128]⟩
abbrev S2x8x32x128 : Shape := ⟨4, ![2, 8, 32, 128]⟩
abbrev S4x2x4x32x128 : Shape := ⟨5, ![4, 2, 4, 32, 128]⟩
abbrev S4x1x4x32x128 : Shape := ⟨5, ![4, 1, 4, 32, 128]⟩
abbrev S4x4x32x128 : Shape := ⟨4, ![4, 4, 32, 128]⟩
abbrev S8x2x2x32x128 : Shape := ⟨5, ![8, 2, 2, 32, 128]⟩
abbrev S8x1x2x32x128 : Shape := ⟨5, ![8, 1, 2, 32, 128]⟩
abbrev S8x2x32x128 : Shape := ⟨4, ![8, 2, 32, 128]⟩
abbrev S16x2x1x32x128 : Shape := ⟨5, ![16, 2, 1, 32, 128]⟩
abbrev S16x1x1x32x128 : Shape := ⟨5, ![16, 1, 1, 32, 128]⟩
abbrev S16x1x32x128 : Shape := ⟨4, ![16, 1, 32, 128]⟩
abbrev S32x16x128 : Shape := ⟨3, ![32, 16, 128]⟩
abbrev S1x16x128 : Shape := ⟨3, ![1, 16, 128]⟩
abbrev S16x128 : Shape := ⟨2, ![16, 128]⟩
abbrev S1x2x16x16x128 : Shape := ⟨5, ![1, 2, 16, 16, 128]⟩
abbrev S1x1x16x16x128 : Shape := ⟨5, ![1, 1, 16, 16, 128]⟩
abbrev S1x16x16x128 : Shape := ⟨4, ![1, 16, 16, 128]⟩
abbrev S2x2x8x16x128 : Shape := ⟨5, ![2, 2, 8, 16, 128]⟩
abbrev S2x1x8x16x128 : Shape := ⟨5, ![2, 1, 8, 16, 128]⟩
abbrev S2x8x16x128 : Shape := ⟨4, ![2, 8, 16, 128]⟩
abbrev S4x2x4x16x128 : Shape := ⟨5, ![4, 2, 4, 16, 128]⟩
abbrev S4x1x4x16x128 : Shape := ⟨5, ![4, 1, 4, 16, 128]⟩
abbrev S4x4x16x128 : Shape := ⟨4, ![4, 4, 16, 128]⟩
abbrev S8x2x2x16x128 : Shape := ⟨5, ![8, 2, 2, 16, 128]⟩
abbrev S8x1x2x16x128 : Shape := ⟨5, ![8, 1, 2, 16, 128]⟩
abbrev S8x2x16x128 : Shape := ⟨4, ![8, 2, 16, 128]⟩
abbrev S16x2x1x16x128 : Shape := ⟨5, ![16, 2, 1, 16, 128]⟩
abbrev S16x1x1x16x128 : Shape := ⟨5, ![16, 1, 1, 16, 128]⟩
abbrev S16x1x16x128 : Shape := ⟨4, ![16, 1, 16, 128]⟩
abbrev S32x8x128 : Shape := ⟨3, ![32, 8, 128]⟩
abbrev S1x8x128 : Shape := ⟨3, ![1, 8, 128]⟩
abbrev S8x128 : Shape := ⟨2, ![8, 128]⟩
abbrev S1x2x16x8x128 : Shape := ⟨5, ![1, 2, 16, 8, 128]⟩
abbrev S1x1x16x8x128 : Shape := ⟨5, ![1, 1, 16, 8, 128]⟩
abbrev S1x16x8x128 : Shape := ⟨4, ![1, 16, 8, 128]⟩
abbrev S2x2x8x8x128 : Shape := ⟨5, ![2, 2, 8, 8, 128]⟩
abbrev S2x1x8x8x128 : Shape := ⟨5, ![2, 1, 8, 8, 128]⟩
abbrev S2x8x8x128 : Shape := ⟨4, ![2, 8, 8, 128]⟩
abbrev S4x2x4x8x128 : Shape := ⟨5, ![4, 2, 4, 8, 128]⟩
abbrev S4x1x4x8x128 : Shape := ⟨5, ![4, 1, 4, 8, 128]⟩
abbrev S4x4x8x128 : Shape := ⟨4, ![4, 4, 8, 128]⟩
abbrev S8x2x2x8x128 : Shape := ⟨5, ![8, 2, 2, 8, 128]⟩
abbrev S8x1x2x8x128 : Shape := ⟨5, ![8, 1, 2, 8, 128]⟩
abbrev S8x2x8x128 : Shape := ⟨4, ![8, 2, 8, 128]⟩
abbrev S16x2x1x8x128 : Shape := ⟨5, ![16, 2, 1, 8, 128]⟩
abbrev S16x1x1x8x128 : Shape := ⟨5, ![16, 1, 1, 8, 128]⟩
abbrev S16x1x8x128 : Shape := ⟨4, ![16, 1, 8, 128]⟩
abbrev S32x4x128 : Shape := ⟨3, ![32, 4, 128]⟩
abbrev S1x4x128 : Shape := ⟨3, ![1, 4, 128]⟩
abbrev S4x128 : Shape := ⟨2, ![4, 128]⟩
abbrev S1x2x16x4x128 : Shape := ⟨5, ![1, 2, 16, 4, 128]⟩
abbrev S1x1x16x4x128 : Shape := ⟨5, ![1, 1, 16, 4, 128]⟩
abbrev S1x16x4x128 : Shape := ⟨4, ![1, 16, 4, 128]⟩
abbrev S2x2x8x4x128 : Shape := ⟨5, ![2, 2, 8, 4, 128]⟩
abbrev S2x1x8x4x128 : Shape := ⟨5, ![2, 1, 8, 4, 128]⟩
abbrev S2x8x4x128 : Shape := ⟨4, ![2, 8, 4, 128]⟩
abbrev S4x2x4x4x128 : Shape := ⟨5, ![4, 2, 4, 4, 128]⟩
abbrev S4x1x4x4x128 : Shape := ⟨5, ![4, 1, 4, 4, 128]⟩
abbrev S4x4x4x128 : Shape := ⟨4, ![4, 4, 4, 128]⟩
abbrev S8x2x2x4x128 : Shape := ⟨5, ![8, 2, 2, 4, 128]⟩
abbrev S8x1x2x4x128 : Shape := ⟨5, ![8, 1, 2, 4, 128]⟩
abbrev S8x2x4x128 : Shape := ⟨4, ![8, 2, 4, 128]⟩
abbrev S16x2x1x4x128 : Shape := ⟨5, ![16, 2, 1, 4, 128]⟩
abbrev S16x1x1x4x128 : Shape := ⟨5, ![16, 1, 1, 4, 128]⟩
abbrev S16x1x4x128 : Shape := ⟨4, ![16, 1, 4, 128]⟩
abbrev S32x2x128 : Shape := ⟨3, ![32, 2, 128]⟩
abbrev S1x2x128 : Shape := ⟨3, ![1, 2, 128]⟩
abbrev S2x128 : Shape := ⟨2, ![2, 128]⟩
abbrev S1x2x16x2x128 : Shape := ⟨5, ![1, 2, 16, 2, 128]⟩
abbrev S1x1x16x2x128 : Shape := ⟨5, ![1, 1, 16, 2, 128]⟩
abbrev S1x16x2x128 : Shape := ⟨4, ![1, 16, 2, 128]⟩
abbrev S2x2x8x2x128 : Shape := ⟨5, ![2, 2, 8, 2, 128]⟩
abbrev S2x1x8x2x128 : Shape := ⟨5, ![2, 1, 8, 2, 128]⟩
abbrev S2x8x2x128 : Shape := ⟨4, ![2, 8, 2, 128]⟩
abbrev S4x2x4x2x128 : Shape := ⟨5, ![4, 2, 4, 2, 128]⟩
abbrev S4x1x4x2x128 : Shape := ⟨5, ![4, 1, 4, 2, 128]⟩
abbrev S4x4x2x128 : Shape := ⟨4, ![4, 4, 2, 128]⟩
abbrev S8x2x2x2x128 : Shape := ⟨5, ![8, 2, 2, 2, 128]⟩
abbrev S8x1x2x2x128 : Shape := ⟨5, ![8, 1, 2, 2, 128]⟩
abbrev S8x2x2x128 : Shape := ⟨4, ![8, 2, 2, 128]⟩
abbrev S16x2x1x2x128 : Shape := ⟨5, ![16, 2, 1, 2, 128]⟩
abbrev S16x1x1x2x128 : Shape := ⟨5, ![16, 1, 1, 2, 128]⟩
abbrev S16x1x2x128 : Shape := ⟨4, ![16, 1, 2, 128]⟩
abbrev S32x1x128 : Shape := ⟨3, ![32, 1, 128]⟩
abbrev S1x1x128 : Shape := ⟨3, ![1, 1, 128]⟩
abbrev S1x128 : Shape := ⟨2, ![1, 128]⟩
abbrev S1x2x16x1x128 : Shape := ⟨5, ![1, 2, 16, 1, 128]⟩
abbrev S1x1x16x1x128 : Shape := ⟨5, ![1, 1, 16, 1, 128]⟩
abbrev S1x16x1x128 : Shape := ⟨4, ![1, 16, 1, 128]⟩
abbrev S2x2x8x1x128 : Shape := ⟨5, ![2, 2, 8, 1, 128]⟩
abbrev S2x1x8x1x128 : Shape := ⟨5, ![2, 1, 8, 1, 128]⟩
abbrev S2x8x1x128 : Shape := ⟨4, ![2, 8, 1, 128]⟩
abbrev S4x2x4x1x128 : Shape := ⟨5, ![4, 2, 4, 1, 128]⟩
abbrev S4x1x4x1x128 : Shape := ⟨5, ![4, 1, 4, 1, 128]⟩
abbrev S4x4x1x128 : Shape := ⟨4, ![4, 4, 1, 128]⟩
abbrev S8x2x2x1x128 : Shape := ⟨5, ![8, 2, 2, 1, 128]⟩
abbrev S8x1x2x1x128 : Shape := ⟨5, ![8, 1, 2, 1, 128]⟩
abbrev S8x2x1x128 : Shape := ⟨4, ![8, 2, 1, 128]⟩
abbrev S16x2x1x1x128 : Shape := ⟨5, ![16, 2, 1, 1, 128]⟩
abbrev S16x1x1x1x128 : Shape := ⟨5, ![16, 1, 1, 1, 128]⟩
abbrev S16x1x1x128 : Shape := ⟨4, ![16, 1, 1, 128]⟩
abbrev S128 : Shape := ⟨1, ![128]⟩
abbrev S128x1 : Shape := ⟨2, ![128, 1]⟩
abbrev S8192x8192 : Shape := ⟨2, ![8192, 8192]⟩

abbrev nBuf : Space → Nat
  | .hbm => 6
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x8192, .f32⟩
  | .local _ .vmem, ⟨0, _⟩ => ⟨S8192x128, .f32⟩
  | .local _ .vmem, ⟨1, _⟩ => ⟨S128x128, .f32⟩
  | .local _ .vmem, ⟨2, _⟩ => ⟨S8192x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S8192x128, .f32⟩
  | .local _ .vmem, ⟨8, _⟩ => ⟨S8192x128, .f32⟩
  | .local _ .vmem, ⟨9, _⟩ => ⟨S128x128, .f32⟩
  | .local _ .vmem, ⟨10, _⟩ => ⟨S128x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : Index := Scalar.indexCast v3
  let c0 : Index := 0#32
  ![v4.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8192x128 : Shape := ⟨2, ![8192, 128]⟩
abbrev S128x128 : Shape := ⟨2, ![128, 128]⟩
abbrev S_ : Shape := ⟨0, ![]⟩
abbrev S128x8192 : Shape := ⟨2, ![128, 8192]⟩
abbrev S8192x8192 : Shape := ⟨2, ![8192, 8192]⟩
abbrev S8192x32 : Shape := ⟨2, ![8192, 32]⟩
abbrev S8192 : Shape := ⟨1, ![8192]⟩
abbrev S8192x1 : Shape := ⟨2, ![8192, 1]⟩
abbrev S8192x32x1 : Shape := ⟨3, ![8192, 32, 1]⟩
abbrev S8192x32x2 : Shape := ⟨3, ![8192, 32, 2]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S128x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x32, .f32⟩
  | .hbm, ⟨13, _⟩ => ⟨S8192x32, .i32⟩
  | .hbm, ⟨14, _⟩ => ⟨S8192, .i32⟩
  | .hbm, ⟨15, _⟩ => ⟨S8192x1, .i32⟩
  | .hbm, ⟨16, _⟩ => ⟨S_, .f32⟩
  | .hbm, ⟨17, _⟩ => ⟨S8192x8192, .f32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S_, .i32⟩
  | .hbm, ⟨26, _⟩ => ⟨S8192x32, .i32⟩
  | .hbm, ⟨27, _⟩ => ⟨S8192x32, .i1⟩
  | .hbm, ⟨28, _⟩ => ⟨S_, .i32⟩
  | .hbm, ⟨29, _⟩ => ⟨S8192x32, .i32⟩
  | .hbm, ⟨30, _⟩ => ⟨S8192x32, .i32⟩
  | .hbm, ⟨31, _⟩ => ⟨S8192x32, .i32⟩
  | .hbm, ⟨32, _⟩ => ⟨S8192x32, .i32⟩
  | .hbm, ⟨33, _⟩ => ⟨S8192x32x1, .i32⟩
  | .hbm, ⟨34, _⟩ => ⟨S8192x32x1, .i32⟩
  | .hbm, ⟨35, _⟩ => ⟨S8192x32x2, .i32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Net.lean ====
/- The selection network of the first call, written once for all its stages.

   The kernel keeps a block of scores as 32 rows of `L` lists of 128 columns. It sorts the 32 rows of every list by
   compare-exchange stages, and then halves the number of lists: two lists are merged by keeping, row by row, the
   greater of one list and the other list read backwards, and the kept rows are sorted again by five more stages.
   Here a stage is a function of the number of row groups, of the distance inside a group and of the number of
   lists, so that one statement about it serves all the stages. -/
module

public import Idealize.ShloMosaic.PureOps
public import Idealize.ShloMosaic.Lib.Pipeline.Value

@[expose] public section

noncomputable section

namespace Cert.Net

open Idealize.ShloMosaic

/-- `n` rows of `L` lists of 128 columns. -/
abbrev T3 (n L : ℕ) : Shape := ⟨3, ![n, L, 128]⟩

/-- One half of every row group: `g` groups of `d` rows. -/
abbrev T4 (g d L : ℕ) : Shape := ⟨4, ![g, d, L, 128]⟩

/-- `g` groups of `k` half groups of `d` rows. -/
abbrev T5 (g k d L : ℕ) : Shape := ⟨5, ![g, k, d, L, 128]⟩

/-- One word for every row group. -/
abbrev TM (g : ℕ) : Shape := ⟨4, ![g, 1, 1, 1]⟩

/-- Cutting 32 rows into groups keeps the number of elements. -/
theorem casts_35 {g d : ℕ} (L : ℕ) (h : g * 2 * d = 32) : (T3 32 L).ShapeCasts (T5 g 2 d L) := by
  simp only [Shape.ShapeCasts, Shape.numel, Fin.prod_univ_succ, Fin.prod_univ_zero, Matrix.cons_val_zero, Matrix.cons_val_succ, mul_one]
  rw [← h]; simp only [Nat.mul_assoc]

/-- Putting the groups back together keeps the number of elements. -/
theorem casts_53 {g d : ℕ} (L : ℕ) (h : g * 2 * d = 32) : (T5 g 2 d L).ShapeCasts (T3 32 L) := (casts_35 L h).symm

/-- Dropping the unit axis of a half keeps the number of elements. -/
theorem casts_54 (g d L : ℕ) : (T5 g 1 d L).ShapeCasts (T4 g d L) := by
  simp only [Shape.ShapeCasts, Shape.numel, Fin.prod_univ_succ, Fin.prod_univ_zero, Matrix.cons_val_zero, Matrix.cons_val_succ, mul_one, one_mul]

/-- Giving a half its unit axis back keeps the number of elements. -/
theorem casts_45 (g d L : ℕ) : (T4 g d L).ShapeCasts (T5 g 1 d L) := (casts_54 g d L).symm

/-- The two halves lie inside the groups. -/
theorem slices_half (g d L o : ℕ) (ho : o < 2) : (T5 g 2 d L).Slices ![0, o, 0, 0, 0] (T5 g 1 d L) :=
  ⟨rfl, by intro a; fin_cases a <;> simp [Fin.cast] <;> omega⟩

/-- Two halves laid end to end are the groups. -/
theorem concs_half (g d L : ℕ) : Shape.Concatenates [T5 g 1 d L, T5 g 1 d L] (T5 g 2 d L) 1 :=
  ⟨le_refl 2, fun s hs => by
    have : s = T5 g 1 d L := by simpa using hs
    subst this
    exact ⟨rfl, by intro b hb; fin_cases b <;> first | rfl | exact absurd rfl hb⟩, rfl⟩

/-- One word per group spreads over the group. -/
theorem bcasts_mask (g d L : ℕ) : (TM g).Broadcasts (T4 g d L) :=
  ⟨le_refl 4, by
    intro a; fin_cases a
    · exact .inr fun _ => rfl
    · exact .inl rfl
    · exact .inl rfl
    · exact .inl rfl⟩

/-- One word per group spreads over itself. -/
theorem bcasts_word (g : ℕ) : (TM g).Broadcasts (TM g) := ⟨le_refl 4, fun _ => .inr fun _ => rfl⟩

/-- The group numbers are numbers along the first axis. -/
theorem iotas_word (g : ℕ) : (TM g).Iotas .tc 32 [0] :=
  ⟨by simp, fun _ => ⟨.inr rfl, (by decide : 2 ≤ 4)⟩, fun h => absurd rfl h⟩

variable {F : FTy → Type} [FloatOps F]

/-- The rows of one half of every group: the lower ones (`o = 0`) or the upper ones (`o = 1`). -/
def half (g d L o : ℕ) (h : g * 2 * d = 32) (ho : o < 2) (a : FVec F (T3 32 L) .f32) : FVec F (T4 g d L) .f32 :=
  shapeCast (T4 g d L)
    (extractStridedSlice (T5 g 1 d L) ![0, o, 0, 0, 0] (shapeCast (T5 g 2 d L) a (casts_35 L h)) (slices_half g d L o ho))
    (casts_54 g d L)

/-- The lower and the upper halves of the groups put back together. -/
def join (g d L : ℕ) (h : g * 2 * d = 32) (x y : FVec F (T4 g d L) .f32) : FVec F (T3 32 L) .f32 :=
  shapeCast (T3 32 L)
    (concatenate (T5 g 2 d L) 1
      [⟨T5 g 1 d L, shapeCast (T5 g 1 d L) x (casts_45 g d L)⟩, ⟨T5 g 1 d L, shapeCast (T5 g 1 d L) y (casts_45 g d L)⟩]
      (concs_half g d L))
    (casts_53 L h)

/-- A stage all of whose comparisons put the greater value in the lower row. -/
def down (g d L : ℕ) (h : g * 2 * d = 32) (a : FVec F (T3 32 L) .f32) : FVec F (T3 32 L) .f32 :=
  join g d L h (maximumf (half g d L 0 h (by decide) a) (half g d L 1 h (by decide) a))
    (minimumf (half g d L 0 h (by decide) a) (half g d L 1 h (by decide) a))

/-- The group number times `cm`, divided by `cs` rounding down, as the kernel spells it. -/
def blockNo (g : ℕ) (cm cs : BitVec 32) : IVec (TM g) 32 :=
  let p : IVec (TM g) 32 := muli (iota .tc (TM g) 32 [0] (iotas_word g)) (broadcast (TM g) cm)
  let q : IVec (TM g) 32 := divsi p (broadcast (TM g) cs)
  let sp : IVec (TM g) 32 := subi (extui 32 (cmpi .sgt p (broadcast (TM g) 0#32)) (by decide))
    (extui 32 (cmpi .slt p (broadcast (TM g) 0#32)) (by decide))
  let ss : BitVec 32 := Scalar.subi (Scalar.extui (Scalar.cmpi .sgt cs 0#32)) (Scalar.extui (Scalar.cmpi .slt cs 0#32))
  select (andi (cmpi .ne sp (broadcast (TM g) ss)) (cmpi .ne (remsi p (broadcast (TM g) cs)) (broadcast (TM g) 0#32)))
    (subi q (broadcast (TM g) 1#32)) q

/-- Whether a word is even, as the kernel spells it. -/
def isEven (g : ℕ) (v : IVec (TM g) 32) : IVec (TM g) 1 :=
  let two : BitVec 32 := Scalar.select (Scalar.cmpi .eq 2#32 0#32) 1#32 2#32
  let r : IVec (TM g) 32 := remsi v (broadcast (TM g) two)
  let c : IVec (TM g) 1 := andi
    (xori (cmpi .slt r (broadcast (TM g) 0#32))
      (broadcastTo (TM g) (broadcast (TM g) (Scalar.cmpi .slt two 0#32)) (bcasts_word g)))
    (cmpi .ne r (broadcast (TM g) 0#32))
  cmpi .eq (select c (addi r (broadcast (TM g) two)) r) (broadcast (TM g) 0#32)

/-- Whether the comparisons of a group put the greater value in the lower row. -/
def dirBit (g : ℕ) (cm cs : BitVec 32) : IVec (TM g) 1 := isEven g (blockNo g cm cs)

/-- A stage whose comparisons change direction from one run of rows to the next. -/
def turn (g d L : ℕ) (h : g * 2 * d = 32) (cm cs : BitVec 32) (a : FVec F (T3 32 L) .f32) : FVec F (T3 32 L) .f32 :=
  let hi : FVec F (T4 g d L) .f32 := maximumf (half g d L 0 h (by decide) a) (half g d L 1 h (by decide) a)
  let lo : FVec F (T4 g d L) .f32 := minimumf (half g d L 0 h (by decide) a) (half g d L 1 h (by decide) a)
  let w : IVec (T4 g d L) 1 := broadcastTo (T4 g d L) (shapeCast (TM g) (dirBit g cm cs) rfl) (bcasts_mask g d L)
  join g d L h (select w hi lo) (select w lo hi)

/-- The five stages that sort rows that first fall and then rise. -/
def settle (L : ℕ) (a : FVec F (T3 32 L) .f32) : FVec F (T3 32 L) .f32 :=
  down 16 1 L rfl (down 8 2 L rfl (down 4 4 L rfl (down 2 8 L rfl (down 1 16 L rfl a))))

/-- The stages that sort the 32 rows of every list downwards. -/
def sortRows (L : ℕ) (a : FVec F (T3 32 L) .f32) : FVec F (T3 32 L) .f32 :=
  let a1 : FVec F (T3 32 L) .f32 := turn 16 1 L rfl 2#32 2#32 a
  let a2 : FVec F (T3 32 L) .f32 := turn 16 1 L rfl 2#32 4#32 (turn 8 2 L rfl 4#32 4#32 a1)
  let a3 : FVec F (T3 32 L) .f32 := turn 16 1 L rfl 2#32 8#32 (turn 8 2 L rfl 4#32 8#32 (turn 4 4 L rfl 8#32 8#32 a2))
  let a4 : FVec F (T3 32 L) .f32 := turn 16 1 L rfl 2#32 16#32 (turn 8 2 L rfl 4#32 16#32 (turn 4 4 L rfl 8#32 16#32
    (turn 2 8 L rfl 16#32 16#32 a3)))
  settle L a4

/-- One row of every list lies inside the rows. -/
theorem slices_row (L k : ℕ) (hk : k < 32) : (T3 32 L).Slices ![k, 0, 0] (T3 1 L) :=
  ⟨rfl, by intro a; fin_cases a <;> simp [Fin.cast] <;> omega⟩

/-- One row of every list without its unit axis. -/
theorem casts_32 (L : ℕ) : (T3 1 L).ShapeCasts ⟨2, ![L, 128]⟩ := by
  simp only [Shape.ShapeCasts, Shape.numel, Fin.prod_univ_succ, Fin.prod_univ_zero, Matrix.cons_val_zero, Matrix.cons_val_succ, mul_one, one_mul]

/-- Row `k` of every list, as one row. -/
def oneRow (L k : ℕ) (hk : k < 32) (y : FVec F (T3 32 L) .f32) : FVec F (T3 1 L) .f32 :=
  shapeCast (T3 1 L)
    (shapeCast ⟨2, ![L, 128]⟩ (extractStridedSlice (T3 1 L) ![k, 0, 0] y (slices_row L k hk)) (casts_32 L))
    (casts_32 L).symm

/-- Thirty-two rows laid end to end. -/
theorem concs_rows (L : ℕ) (f : Fin 32 → FVec F (T3 1 L) .f32) :
    Shape.Concatenates ((List.ofFn fun n : Fin 32 => (⟨T3 1 L, f n⟩ : (s : Shape) × (s.Idx → F .f32))).map (·.1)) (T3 32 L) 0 := by
  rw [List.map_ofFn, show (Sigma.fst ∘ fun n : Fin 32 => (⟨T3 1 L, f n⟩ : (s : Shape) × (s.Idx → F .f32))) = fun _ => T3 1 L from rfl]
  refine ⟨by rw [List.length_ofFn]; decide, fun s hs => ?_, ?_⟩
  · obtain ⟨n, rfl⟩ := List.mem_ofFn.mp hs
    exact ⟨rfl, by intro b hb; fin_cases b <;> first | rfl | exact absurd rfl hb⟩
  · rw [List.map_ofFn]
    show (List.ofFn fun _ : Fin 32 => 1).sum = 32
    rw [List.ofFn_const]; rfl

/-- The rows of every list in the opposite order. -/
def flip (L : ℕ) (y : FVec F (T3 32 L) .f32) : FVec F (T3 32 L) .f32 :=
  concatenate (T3 32 L) 0
    (List.ofFn fun n : Fin 32 => (⟨T3 1 L, oneRow L (31 - n.val) (by omega) y⟩ : (s : Shape) × (s.Idx → F .f32)))
    (concs_rows L fun n => oneRow L (31 - n.val) (by omega) y)

/-- The lists from number `o` on, `h` of them, lie inside the `2 h` lists. -/
theorem slices_lists (h o : ℕ) (ho : o ≤ h) : (T3 32 (h + h)).Slices ![0, o, 0] (T3 32 h) :=
  ⟨rfl, by intro a; fin_cases a <;> simp [Fin.cast] <;> omega⟩

/-- `2 h` sorted lists become `h` sorted lists: list `l` of the result is what is greatest of lists `l` and `h + l`. -/
def merge (h : ℕ) (a : FVec F (T3 32 (h + h)) .f32) : FVec F (T3 32 h) .f32 :=
  settle h (maximumf (extractStridedSlice (T3 32 h) ![0, 0, 0] a (slices_lists h 0 (Nat.zero_le h)))
    (flip h (extractStridedSlice (T3 32 h) ![0, h, 0] a (slices_lists h h le_rfl))))

/-- The 32 greatest of the 8192 values of every column, greatest first. -/
def top (a : FVec F (T3 32 256) .f32) : FVec F (T3 32 1) .f32 :=
  merge 1 (merge 2 (merge 4 (merge 8 (merge 16 (merge 32 (merge 64 (merge 128 (sortRows 256 a))))))))

/-- The 32 kept values of every column as 32 rows. -/
def kept (a : FVec F (T3 32 256) .f32) : FVec F ⟨2, ![32, 128]⟩ .f32 := shapeCast ⟨2, ![32, 128]⟩ (top a) rfl

/-- The greatest value of every column. -/
def greatest (k : FVec F ⟨2, ![32, 128]⟩ .f32) : FVec F ⟨2, ![1, 128]⟩ .f32 :=
  extractStridedSlice ⟨2, ![1, 128]⟩ ![0, 0] k (by decide)

/-- The least kept value of every column. -/
def least (k : FVec F ⟨2, ![32, 128]⟩ .f32) : FVec F ⟨2, ![1, 128]⟩ .f32 :=
  extractStridedSlice ⟨2, ![1, 128]⟩ ![31, 0] k (by decide)

/-- The sum over a column of the exponentials of the kept values, the greatest taken away. -/
def total (k : FVec F ⟨2, ![32, 128]⟩ .f32) : FVec F ⟨2, ![1, 128]⟩ .f32 :=
  shapeCast ⟨2, ![1, 128]⟩
    (multiReduction .add [0] ⟨1, ![128]⟩ (exp (subf k (broadcastTo ⟨2, ![32, 128]⟩ (greatest k) (by decide)))) 0x00000000#32
      (by decide) (.inl rfl) rfl) rfl

/-- What the second call takes away in the exponent: the greatest value and the logarithm of the sum, times `lg`. -/
def weight (lg : F .f32) (k : FVec F ⟨2, ![32, 128]⟩ .f32) : FVec F ⟨2, ![1, 128]⟩ .f32 :=
  addf (mulf (greatest k) (broadcast ⟨2, ![1, 128]⟩ lg)) (mulf (log (total k)) (broadcast ⟨2, ![1, 128]⟩ lg))

end Cert.Net

end
-- ==== Proof.BodyIdeal.lean ====
/- The body of the first call, with its 2115 printed statements read as one function of the scores.

   The generated skeleton hands the values of the sort from part to part. Here the whole body is the same program
   with the selection network of Net.lean in their place: at the first point of the grid it first fills the scratch
   array, and at every point it stores, for its 128 columns, the least kept score and the exponent's offset. -/
module

public import proofs.«01_k».proof.Proof.Gen.KernelIdeal.Skeleton
public import proofs.«01_k».proof.Proof.Net

@[expose] public section

set_option maxRecDepth 65536

noncomputable section

namespace Cert.KernelIdeal.Hand

open Idealize.ShloMosaic Idealize.SL.Sem Cert.KernelIdeal.Gen

variable {F : FTy → Type} [FloatOps F] [Named F]

/-- The scores of 128 columns as 32 rows of 256 lists. -/
def scoreRows (a : Vec F S8192x128 .f32) (b : Vec F S128x128 .f32) : FVec F S32x256x128 .f32 :=
  shapeCast S32x256x128
    (matmul dot_S8192x128_S128x128_S8192x128_1_1_0_0_n_n none a b (constant S8192x128 .f32 0x00000000#32))
    shapeCasts_S8192x128_S32x256x128

/-- The number that stands for the binary logarithm of `e` in this program. -/
def lg2e : F .f32 := Named.named κ "log2_e" 0x3FB8AA3B#32

/-- What is stored as the least kept score of every column: one row per column. -/
def floorOut (a : Vec F S8192x128 .f32) (b : Vec F S128x128 .f32) : FVec F S128x128 .f32 :=
  k0_pay1 (Net.least (Net.kept (scoreRows a b)))

/-- What is stored as the offset of every column: one row per column. -/
def weightOut (a : Vec F S8192x128 .f32) (b : Vec F S128x128 .f32) : FVec F S128x128 .f32 :=
  k0_pay2 (Net.weight lg2e (Net.kept (scoreRows a b)))

/-- The body at a point that is not the first. -/
def laterBody (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole) :
    Prog (TpuEff nD τ sig (Elt F) Λ₀ .tc) PUnit := do
  let b : Vec F S128x128 .f32 ← Prog.lift (.load arg6 (Rect.unit (s := S8192x128) (k0_off1 i) S128x128.size (k0_off1_inb i)).toLoadRect (View.loadsAt_vmem h_S128x128))
  let a : Vec F S8192x128 .f32 ← Prog.lift (.load arg6 (Rect.unit (s := S8192x128) ![0, 0] S8192x128.size inb_S8192x128_S8192x128_0_0).toLoadRect (View.loadsAt_vmem h_S8192x128))
  let _ : Vec F S128x128 .f32 ← Prog.lift (.load arg4 (Rect.unit (s := S128x128) ![0, 0] S128x128.size inb_S128x128_S128x128_0_0).toLoadRect (View.loadsAt_vmem h_S128x128))
  Prog.lift (.store arg4 (Rect.unit (s := S128x128) ![0, 0] S128x128.size inb_S128x128_S128x128_0_0) (floorOut a b) Finset.univ (View.stores_vmem_bits_univ h_S128x128 rfl) (.inl rfl))
  let _ : Vec F S128x128 .f32 ← Prog.lift (.load arg5 (Rect.unit (s := S128x128) ![0, 0] S128x128.size inb_S128x128_S128x128_0_0).toLoadRect (View.loadsAt_vmem h_S128x128))
  Prog.lift (.store arg5 (Rect.unit (s := S128x128) ![0, 0] S128x128.size inb_S128x128_S128x128_0_0) (weightOut a b) Finset.univ (View.stores_vmem_bits_univ h_S128x128 rfl) (.inl rfl))
  pure ⟨⟩

/-- What runs at the first point alone: the scratch array and the first result are filled. -/
def fillBody (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole) :
    Prog (TpuEff nD τ sig (Elt F) Λ₀ .tc) PUnit := do
  let x : Vec F S8192x128 .f32 ← Prog.lift (.load arg1 (Rect.unit (s := S8192x128) ![0, 0] S8192x128.size inb_S8192x128_S8192x128_0_0).toLoadRect (View.loadsAt_vmem h_S8192x128))
  let w : Vec F S128x128 .f32 ← Prog.lift (.load arg2 (Rect.unit (s := S128x128) ![0, 0] S128x128.size inb_S128x128_S128x128_0_0).toLoadRect (View.loadsAt_vmem h_S128x128))
  let _ : Vec F S8192x128 .f32 ← Prog.lift (.load arg6 (Rect.unit (s := S8192x128) ![0, 0] S8192x128.size inb_S8192x128_S8192x128_0_0).toLoadRect (View.loadsAt_vmem h_S8192x128))
  Prog.lift (.store arg6 (Rect.unit (s := S8192x128) ![0, 0] S8192x128.size inb_S8192x128_S8192x128_0_0) (k0_pay4 x w) Finset.univ (View.stores_vmem_bits_univ h_S8192x128 rfl) (.inl rfl))
  let _ : Vec F S8192x128 .f32 ← Prog.lift (.load arg3 (Rect.unit (s := S8192x128) ![0, 0] S8192x128.size inb_S8192x128_S8192x128_0_0).toLoadRect (View.loadsAt_vmem h_S8192x128))
  Prog.lift (.store arg3 (Rect.unit (s := S8192x128) ![0, 0] S8192x128.size inb_S8192x128_S8192x128_0_0) (k0_pay3 x w) Finset.univ (View.stores_vmem_bits_univ h_S8192x128 rfl) (.inl rfl))
  pure ⟨⟩

/-- The body at the first point: the arrays are filled before the rest runs. -/
def firstBody (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole) :
    Prog (TpuEff nD τ sig (Elt F) Λ₀ .tc) PUnit := do
  let _ ← fillBody i arg1 harg1 arg2 harg2 arg3 harg3 arg4 harg4 arg5 harg5 arg6 harg6
  laterBody i arg1 harg1 arg2 harg2 arg3 harg3 arg4 harg4 arg5 harg5 arg6 harg6

/-- At a point that is not the first the printed body is `laterBody`. -/
theorem body_later (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole)
    (h : ¬ k0_cond1 i = 1#1) :
    cc0__stats_kernel (F := F) i arg1 harg1 arg2 harg2 arg3 harg3 arg4 harg4 arg5 harg5 arg6 harg6
      = laterBody i arg1 harg1 arg2 harg2 arg3 harg3 arg4 harg4 arg5 harg5 arg6 harg6 := by
  rw [cc0__stats_kernel_eq_skeleton]
  unfold cc0__stats_kernel_skel
  rw [k0_part1_eq_skeleton]
  unfold k0_part1_skel
  rw [dif_neg h]
  rfl

/-- At the first point the printed body is `firstBody`. -/
theorem body_first (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole)
    (h : k0_cond1 i = 1#1) :
    cc0__stats_kernel (F := F) i arg1 harg1 arg2 harg2 arg3 harg3 arg4 harg4 arg5 harg5 arg6 harg6
      = firstBody i arg1 harg1 arg2 harg2 arg3 harg3 arg4 harg4 arg5 harg5 arg6 harg6 := by
  rw [cc0__stats_kernel_eq_skeleton]
  unfold cc0__stats_kernel_skel
  rw [k0_part1_eq_skeleton]
  unfold k0_part1_skel
  rw [dif_pos h]
  rfl

end Cert.KernelIdeal.Hand

end
-- ==== Proof.CallsIdeal.lean ====
/- The two calls of the kernel, each as a triple for its body and the data its pipeline runs with.

   The first call keeps an array of its own between the points of its grid: the first point fills it, the later ones
   read it. So its invariant says what that array holds. The second call has nothing to carry. -/
module

public import proofs.«01_k».proof.Proof.Gen.KernelIdeal.Launch
public import proofs.«01_k».proof.Proof.Gen.KernelIdeal.Points
public import proofs.«01_k».proof.Proof.BodyIdeal
public import Idealize.ShloMosaic.Lib.Pipeline.FrameBody
public import Idealize.ShloMosaic.Lib.Pipeline.Value
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The zero offset of two axes, as a constant function. -/
theorem zero_off : (![0, 0] : Fin 2 → Nat) = fun _ => 0 := by decide

/-- One store over a whole `8192 x 128` buffer meets every index of it. -/
theorem meets_tall (p : Vec F S8192x128 .f32) (y : S8192x128.Idx) :
    ∃ pc ∈ ([⟨Rect.unit (s := S8192x128) ![0, 0] S8192x128.size inb_S8192x128_S8192x128_0_0, p⟩] :
      List (View.Piece (Elt F) S8192x128 .f32)), y ∈ pc.1.set :=
  View.cover_of_tiled [⟨Rect.unit (s := S8192x128) ![0, 0] S8192x128.size inb_S8192x128_S8192x128_0_0, p⟩] S8192x128.size (by rfl) y

/-- One store over a whole `128 x 128` buffer meets every index of it. -/
theorem meets_square (p : Vec F S128x128 .f32) (y : S128x128.Idx) :
    ∃ pc ∈ ([⟨Rect.unit (s := S128x128) ![0, 0] S128x128.size inb_S128x128_S128x128_0_0, p⟩] :
      List (View.Piece (Elt F) S128x128 .f32)), y ∈ pc.1.set :=
  View.cover_of_tiled [⟨Rect.unit (s := S128x128) ![0, 0] S128x128.size inb_S128x128_S128x128_0_0, p⟩] S128x128.size (by rfl) y

/-- The 128 rows of the scratch array that a point reads as its columns. -/
def rowsAt (i : grid0.Coords) (a : Vec F S8192x128 .f32) : Vec F S128x128 .f32 :=
  View.ld a (Rect.unit (s := S8192x128) (k0_off1 i) S128x128.size (k0_off1_inb i))

set_option maxHeartbeats 1000000 in
/-- The statements of the first point alone leave the positive part of the product in the scratch array and in the
    first result, and touch nothing else they are given. -/
theorem run_fill (c : Dev nD) (E : Set ℕ) (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole)
    (x : Vec F S8192x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg6 fullShare d)
        ∗ (iprop(owns (c : Thread nD τ) arg1 fullShare x ∗ owns (c : Thread nD τ) arg2 fullShare w
            ∗ owns (c : Thread nD τ) arg3 fullShare (k0_pay3 x w) ∗ owns (c : Thread nD τ) arg6 fullShare (k0_pay4 x w)) -∗ K ⟨⟩))
      ⊢ wp frame (wpE (defs₀ (F := F)) Variants.none c none) E (fillBody i arg1 harg1 arg2 harg2 arg3 harg3 arg4 harg4 arg5 harg5 arg6 harg6) K := by
  unfold fillBody
  unfold owns
  iintro ⟨⟨%f1, %h1, H1⟩, ⟨%f2, %h2, H2⟩, ⟨%d3, %f3, -, H3⟩, ⟨%d6, %f6, -, H6⟩, Hk⟩
  subst h1 h2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (meets_tall _)).trans ((View.canon_unit_zero zero_off _ _).trans ?_)
    exact congrArg₂ k0_pay3 (View.ld_unit_zero zero_off _ _) (View.ld_unit_zero zero_off _ _)
  iexists _; isplitr
  swap; · iexact H6
  ipureintro
  refine (View.read_writes_eq_canon _ _ _ (meets_tall _)).trans ((View.canon_unit_zero zero_off _ _).trans ?_)
  exact congrArg₂ k0_pay4 (View.ld_unit_zero zero_off _ _) (View.ld_unit_zero zero_off _ _)

set_option maxHeartbeats 1000000 in
/-- The statements of every point read the scratch array and leave the least kept score and the offset of their 128
    columns. -/
theorem run_later (c : Dev nD) (E : Set ℕ) (i : grid0.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S8192x128 .f32) (harg6 : arg6.IsWhole)
    (a : Vec F S8192x128 .f32) (K : PUnit → sProp 𝕄) :
    iprop((∃ d, owns (c : Thread nD τ) arg4 fullShare d) ∗ (∃ d, owns (c : Thread nD τ) arg5 fullShare d)
        ∗ owns (c : Thread nD τ) arg6 fullShare a
        ∗ (iprop(owns (c : Thread nD τ) arg4 fullShare (floorOut a (rowsAt i a)) ∗ owns (c : Thread nD τ) arg5 fullShare (weightOut a (rowsAt i a))
            ∗ owns (c : Thread nD τ) arg6 fullShare a) -∗ K ⟨⟩))
      ⊢ wp frame (wpE (defs₀ (F := F)) Variants.none c none) E (laterBody i arg1 harg1 arg2 harg2 arg3 harg3 arg4 harg4 arg5 harg5 arg6 harg6) K := by
  unfold laterBody
  unfold owns
  iintro ⟨⟨%d4, %f4, -, H4⟩, ⟨%d5, %f5, -, H5⟩, ⟨%f6, %h6, H6⟩, Hk⟩
  subst h6
  sl_exec
  sl_step
  iapply Hk
  isplitl [H4]
  · iexists _; isplitr
    swap; · iexact H4
    ipureintro
    refine (View.read_writes_eq_canon _ _ _ (meets_square _)).trans ((View.canon_unit_zero zero_off _ _).trans ?_)
    exact congrArg₂ floorOut (View.ld_unit_zero zero_off _ _) rfl
  isplitl [H5]
  · iexists _; isplitr
    swap; · iexact H5
    ipureintro
    refine (View.read_writes_eq_canon _ _ _ (meets_square _)).trans ((View.canon_unit_zero zero_off _ _).trans ?_)
    exact congrArg₂ weightOut (View.ld_unit_zero zero_off _ _) rfl
  iexists f6; isplitr; · ipureintro; rfl
  iexact H6

set_option maxHeartbeats 1000000 in
/-- The second call's body leaves, in its result, one block of the weights computed from what it reads. -/
theorem run_weights (c : Dev nD) (E : Set ℕ) (i : grid1.Coords) (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole)
    (a : Vec F S8192x128 .f32) (b : Vec F S128x128 .f32) (u v : Vec F S8192x128 .f32) (K : PUnit → sProp 𝕄) :
    iprop(owns (c : Thread nD τ) arg1 fullShare a ∗ owns (c : Thread nD τ) arg2 fullShare b ∗ owns (c : Thread nD τ) arg3 fullShare u ∗ owns (c : Thread nD τ) arg4 fullShare v
        ∗ (∃ d, owns (c : Thread nD τ) arg5 fullShare d)
        ∗ (iprop(owns (c : Thread nD τ) arg1 fullShare a ∗ owns (c : Thread nD τ) arg2 fullShare b ∗ owns (c : Thread nD τ) arg3 fullShare u ∗ owns (c : Thread nD τ) arg4 fullShare v
            ∗ owns (c : Thread nD τ) arg5 fullShare (k1_pay1 a b u v)) -∗ K ⟨⟩))
      ⊢ wp frame (wpE (defs₀ (F := F)) Variants.none c none) E (cc1__adj_kernel i arg1 harg1 arg2 harg2 arg3 harg3 arg4 harg4 arg5 harg5) K := by
  simp only [cc1__adj_kernel_eq_skeleton]; unfold cc1__adj_kernel_skel
  unfold owns
  iintro ⟨⟨%f1, %h1, H1⟩, ⟨%f2, %h2, H2⟩, ⟨%f3, %h3, H3⟩, ⟨%f4, %h4, H4⟩, ⟨%d5, %f5, -, H5⟩, Hk⟩
  subst h1 h2 h3 h4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (meets_tall _)).trans ((View.canon_unit_zero zero_off _ _).trans ?_)
  exact congr (congr (congrArg₂ k1_pay1 (View.ld_unit_zero zero_off _ _) (View.ld_unit_zero zero_off _ _))
    (View.ld_unit_zero zero_off _ _)) (View.ld_unit_zero zero_off _ _)

section Data

variable (V : (c : Dev nD) → (b : Ref sig .tc) → Buf (Elt F) ((c : Thread nD τ).loc b))

/-- What window `w` of the first call holds of its array at point `t`. -/
def part0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What window `w` of the second call holds of its array at point `t`. -/
def part1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the first grid. -/
def start0 : Fin cfg0.N := ⟨0, by rw [show cfg0.N = 64 from N_0]; omega⟩

/-- The features the first point computes and stores in the scratch array. -/
def scratchOf (c : Dev nD) : Vec F S8192x128 .f32 := k0_pay4 (part0 V c 0 start0) (part0 V c 1 start0)

/-- The features as the first point stores them in the first result. -/
def featOf (c : Dev nD) : Vec F S8192x128 .f32 := k0_pay3 (part0 V c 0 start0) (part0 V c 1 start0)

/-- The scratch array before point `n`: anything at first, the features from then on. -/
def scratchAt (c : Dev nD) (n : ℕ) : sProp 𝕄 :=
  if n = 0 then iprop(∃ d, owns (c : Thread nD τ) (Memref.whole cc0_scratch0) fullShare d)
  else owns (c : Thread nD τ) (Memref.whole cc0_scratch0) fullShare (scratchOf V c)

/-- The buffers the first call is handed and does not use, and the generator's register. -/
def aside (c : Dev nD) : sProp 𝕄 :=
  iprop(((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))
    ∗ (∃ r, prngReg c r))

/-- The data of the first call: the inputs keep their blocks, the first result holds the features from the first
    point on, and the other two hold what their point computes from the scratch array. -/
def dat0 (c : Dev nD) : Dat τ (Elt F) Unit ℕ (UR sig nD τ) ℕ cfg0 c where
  A w := V c (Pipeline.arrRef spec0 w)
  after w t := match w with
    | ⟨0, _⟩ => part0 V c 0 t
    | ⟨1, _⟩ => part0 V c 1 t
    | ⟨2, _⟩ => featOf V c
    | ⟨3, _⟩ => floorOut (scratchOf V c) (rowsAt (grid0.coords t) (scratchOf V c))
    | ⟨4, _⟩ => weightOut (scratchOf V c) (rowsAt (grid0.coords t) (scratchOf V c))
  Φ i := iprop(scratchAt V c i.val ∗ aside c)
  q _ := fullShare
  owed _ := 0

/-- The data of the second call: the inputs keep their blocks and the result holds its point's block of weights. -/
def dat1 (c : Dev nD) : Dat τ (Elt F) Unit ℕ (UR sig nD τ) ℕ cfg1 c where
  A w := V c (Pipeline.arrRef spec1 w)
  after w t := match w with
    | ⟨0, _⟩ => part1 V c 0 t
    | ⟨1, _⟩ => part1 V c 1 t
    | ⟨2, _⟩ => part1 V c 2 t
    | ⟨3, _⟩ => part1 V c 3 t
    | ⟨4, _⟩ => k1_pay1 (part1 V c 0 t) (part1 V c 1 t) (part1 V c 2 t) (part1 V c 3 t)
  Φ _ := Pipeline.ΦA spec1 c
  q w := Pipeline.shareOf spec1 w
  owed _ := 0

/-- The arrays of the first call are those it finds. -/
theorem dat0_A (c : Dev nD) (w : Fin cfg0.W) : (dat0 V c).A w = V c (Pipeline.arrRef spec0 w) := by
  dsimp only [dat0]

/-- The arrays of the second call are those it finds. -/
theorem dat1_A (c : Dev nD) (w : Fin cfg1.W) : (dat1 V c).A w = V c (Pipeline.arrRef spec1 w) := by
  dsimp only [dat1]

/-- The first call leaves its first input in place. -/
theorem left0_0 (c : Dev nD) (t : Fin cfg0.N) : (dat0 V c).after 0 t = part0 V c 0 t := by dsimp only [dat0]
/-- The first call leaves its second input in place. -/
theorem left0_1 (c : Dev nD) (t : Fin cfg0.N) : (dat0 V c).after 1 t = part0 V c 1 t := by dsimp only [dat0]
/-- The first result holds the features after every point. -/
theorem left0_2 (c : Dev nD) (t : Fin cfg0.N) : (dat0 V c).after 2 t = featOf V c := by dsimp only [dat0]
/-- The second result holds the least kept scores of the point's columns. -/
theorem left0_3 (c : Dev nD) (t : Fin cfg0.N) :
    (dat0 V c).after 3 t = floorOut (scratchOf V c) (rowsAt (grid0.coords t) (scratchOf V c)) := by dsimp only [dat0]
/-- The third result holds the offsets of the point's columns. -/
theorem left0_4 (c : Dev nD) (t : Fin cfg0.N) :
    (dat0 V c).after 4 t = weightOut (scratchOf V c) (rowsAt (grid0.coords t) (scratchOf V c)) := by dsimp only [dat0]
/-- The second call leaves its first input in place. -/
theorem left1_0 (c : Dev nD) (t : Fin cfg1.N) : (dat1 V c).after 0 t = part1 V c 0 t := by dsimp only [dat1]
/-- The second call leaves its second input in place. -/
theorem left1_1 (c : Dev nD) (t : Fin cfg1.N) : (dat1 V c).after 1 t = part1 V c 1 t := by dsimp only [dat1]
/-- The second call leaves its third input in place. -/
theorem left1_2 (c : Dev nD) (t : Fin cfg1.N) : (dat1 V c).after 2 t = part1 V c 2 t := by dsimp only [dat1]
/-- The second call leaves its fourth input in place. -/
theorem left1_3 (c : Dev nD) (t : Fin cfg1.N) : (dat1 V c).after 3 t = part1 V c 3 t := by dsimp only [dat1]
/-- The last result holds the weights of the point's columns. -/
theorem left1_4 (c : Dev nD) (t : Fin cfg1.N) :
    (dat1 V c).after 4 t = k1_pay1 (part1 V c 0 t) (part1 V c 1 t) (part1 V c 2 t) (part1 V c 3 t) := by dsimp only [dat1]

/-- The first input of the first call is found as its block. -/
theorem found0_0 (c : Dev nD) (t : Fin cfg0.N) (d) : (dat0 V c).before 0 t d = part0 V c 0 t :=
  (((dat0 V c).before_in_eq_fetched 0 rfl (fun _ => rfl) (fun _ _ _ => rfl)
    (fun t => by rw [left0_0]; unfold Dat.blockOf part0; rw [dat0_A]; try rfl) t d).trans
    (by unfold Dat.fetched Dat.blockOf part0; rw [dat0_A]; try rfl))
/-- The second input of the first call is found as its block. -/
theorem found0_1 (c : Dev nD) (t : Fin cfg0.N) (d) : (dat0 V c).before 1 t d = part0 V c 1 t :=
  (((dat0 V c).before_in_eq_fetched 1 rfl (fun _ => rfl) (fun _ _ _ => rfl)
    (fun t => by rw [left0_1]; unfold Dat.blockOf part0; rw [dat0_A]; try rfl) t d).trans
    (by unfold Dat.fetched Dat.blockOf part0; rw [dat0_A]; try rfl))
/-- The first input of the second call is found as its block. -/
theorem found1_0 (c : Dev nD) (t : Fin cfg1.N) (d) : (dat1 V c).before 0 t d = part1 V c 0 t :=
  (((dat1 V c).before_in_eq_fetched 0 rfl (fun _ => rfl) (fun _ _ _ => rfl)
    (fun t => by rw [left1_0]; unfold Dat.blockOf part1; rw [dat1_A]; try rfl) t d).trans
    (by unfold Dat.fetched Dat.blockOf part1; rw [dat1_A]; try rfl))
/-- The second input of the second call is found as its block. -/
theorem found1_1 (c : Dev nD) (t : Fin cfg1.N) (d) : (dat1 V c).before 1 t d = part1 V c 1 t :=
  (((dat1 V c).before_in_eq_fetched 1 rfl (fun _ => rfl) (fun _ _ _ => rfl)
    (fun t => by rw [left1_1]; unfold Dat.blockOf part1; rw [dat1_A]; try rfl) t d).trans
    (by unfold Dat.fetched Dat.blockOf part1; rw [dat1_A]; try rfl))
/-- The third input of the second call is found as its block. -/
theorem found1_2 (c : Dev nD) (t : Fin cfg1.N) (d) : (dat1 V c).before 2 t d = part1 V c 2 t :=
  (((dat1 V c).before_in_eq_fetched 2 rfl (fun _ => rfl) (fun _ _ _ => rfl)
    (fun t => by rw [left1_2]; unfold Dat.blockOf part1; rw [dat1_A]; try rfl) t d).trans
    (by unfold Dat.fetched Dat.blockOf part1; rw [dat1_A]; try rfl))
/-- The fourth input of the second call is found as its block. -/
theorem found1_3 (c : Dev nD) (t : Fin cfg1.N) (d) : (dat1 V c).before 3 t d = part1 V c 3 t :=
  (((dat1 V c).before_in_eq_fetched 3 rfl (fun _ => rfl) (fun _ _ _ => rfl)
    (fun t => by rw [left1_3]; unfold Dat.blockOf part1; rw [dat1_A]; try rfl) t d).trans
    (by unfold Dat.fetched Dat.blockOf part1; rw [dat1_A]; try rfl))

/-- The body fills its arrays at the first point and at no other. -/
theorem cond_iff (t : Fin cfg0.N) : k0_cond1 (grid0.coords t) = 1#1 ↔ t.val = 0 := by
  have h : ∀ t : Fin grid0.N, k0_cond1 (grid0.coords t) = 1#1 ↔ t.val = 0 := by decide +kernel
  exact h t

/-- The first result is left alone at every point but the first. -/
theorem idle_eq (t : Fin cfg0.N) : cfg0.idle 2 (cfg0.grid.coords t) = decide (t.val ≠ 0) := by
  have h : ∀ t : Fin cfg0.N, cfg0.idle 2 (cfg0.grid.coords t) = decide (t.val ≠ 0) := by decide +kernel
  exact h t

/-- The first result's buffer holds nothing of the body's only before the first point, and once it is written back
    after the last. -/
theorem fresh_eq (t : Fin cfg0.N) : cfg0.fresh 2 t.val = decide (t.val = 0) := by
  have h := cfg0.fresh_tab 2 (fun n => decide (n = 0 ∨ n = 64)) rfl (by decide +kernel) t.val (Nat.le_of_lt t.isLt)
  rw [h]
  have ht : t.val < 64 := by have := t.isLt; have e : cfg0.N = 64 := N_0; omega
  exact decide_eq_decide.mpr (by omega)

/-- The first result is found as the features at every point but the first. -/
theorem found0_2 (c : Dev nD) (t : Fin cfg0.N) (ht : t.val ≠ 0) (d) : (dat0 V c).before 2 t d = featOf V c := by
  rw [(dat0 V c).before_out_traj 2 rfl (fun _ _ => rfl) (fun t h _ _ => by rw [left0_2, left0_2]) t.val t rfl d,
    fresh_eq, if_neg (by simpa using ht), left0_2]

/-- What the pipeline asks of the first result's buffer after point `t`. -/
def kept0_2 (c : Dev nD) (t : Fin cfg0.N) : sProp 𝕄 :=
  match cfg0.idle 2 (cfg0.grid.coords t) with
  | true =>
    match (cfg0.win 2).flush t with
    | false => iprop(∃ d, owns (c : Thread nD τ) (st0_2 t) fullShare ((dat0 V c).before 2 t d))
    | true => owns (c : Thread nD τ) (st0_2 t) fullShare ((dat0 V c).after 2 t)
  | false => owns (c : Thread nD τ) (st0_2 t) fullShare ((dat0 V c).after 2 t)

/-- The features in the first result's buffer are what the pipeline asks for, at the first point and at the others. -/
theorem kept0_2_intro (c : Dev nD) (t : Fin cfg0.N) :
    owns (c : Thread nD τ) (st0_2 t) fullShare (featOf V c) ⊢ kept0_2 V c t := by
  unfold kept0_2
  rw [idle_eq, left0_2]
  by_cases ht : t.val = 0
  · rw [show decide (t.val ≠ 0) = false from by simpa using ht]
  · rw [show decide (t.val ≠ 0) = true from by simpa using ht]
    cases h : (cfg0.win 2).flush t
    · dsimp only
      simp only [found0_2 V c t ht]
      iintro H; iexists (featOf V c); iexact H
    · exact .rfl

/-- What the first call's body is handed at point `t`. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the first call's body hands back at point `t`. -/
def back0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ kept0_2 V c t
    ∗ owns (c : Thread nD τ) (st0_3 t) fullShare ((dat0 V c).after 3 t)
    ∗ owns (c : Thread nD τ) (st0_4 t) fullShare ((dat0 V c).after 4 t))

/-- The first call's invariant, in its two parts. -/
theorem inv0 (c : Dev nD) (i : Fin (cfg0.N + 1)) : (dat0 V c).Φ i = iprop(scratchAt V c i.val ∗ aside c) := by
  dsimp only [dat0]

/-- The first point's body: it fills the arrays, then reads the scratch array it has just filled. -/
theorem point0_first (c : Dev nD) (t : Fin cfg0.N) (ht : t.val = 0) :
    given0 V c t ⊢ wp frame (wpE (defs₀ (F := F)) Variants.none c none) Set.univ (bodyAt0 t) (fun _ => back0 V c t) := by
  unfold given0 back0 bodyAt0
  rw [body_first _ _ _ _ _ _ _ _ _ _ _ _ _ ((cond_iff t).mpr ht), inv0, inv0,
    show (dat0 V c).owesAt () t.succ = (dat0 V c).owesAt () t.castSucc from rfl,
    left0_0, left0_1, left0_3, left0_4]
  simp only [found0_0, found0_1]
  unfold firstBody scratchAt
  rw [if_pos (show t.castSucc.val = 0 from ht), if_neg (show ¬ t.succ.val = 0 by simp), Idealize.SL.Sem.wp_bind]
  have ht0 : t = start0 := Fin.ext ht
  subst ht0
  iintro ⟨⟨Hs, HΦ⟩, Ho, ⟨%d0, H0⟩, ⟨%d1, H1⟩, ⟨%d2, H2⟩, ⟨%d3, H3⟩, ⟨%d4, H4⟩⟩
  iapply (run_fill c Set.univ (grid0.coords start0) _ _ _ _ _ _ _ _ _ _ _ _ (part0 V c 0 start0) (part0 V c 1 start0) _)
  isplitl [H0]; · iexact H0
  isplitl [H1]; · iexact H1
  isplitl [H2]; · iexists _; iexact H2
  isplitl [Hs]; · iexact Hs
  iintro ⟨H0, H1, H2, Hs⟩
  iapply (run_later c Set.univ (grid0.coords start0) _ _ _ _ _ _ _ _ _ _ _ _ (scratchOf V c) _)
  isplitl [H3]; · iexists _; iexact H3
  isplitl [H4]; · iexists _; iexact H4
  isplitl [Hs]; · iexact Hs
  iintro ⟨H3, H4, Hs⟩
  isplitl [Hs HΦ]
  · isplitl [Hs]; · iexact Hs
    iexact HΦ
  isplitl [Ho]; · iexact Ho
  isplitl [H0]; · iexact H0
  isplitl [H1]; · iexact H1
  isplitl [H2]; · iapply (kept0_2_intro V c start0); iexact H2
  isplitl [H3]; · iexact H3
  iexact H4

/-- The body of a later point: the scratch array and the first result hold the features already. -/
theorem point0_later (c : Dev nD) (t : Fin cfg0.N) (ht : t.val ≠ 0) :
    given0 V c t ⊢ wp frame (wpE (defs₀ (F := F)) Variants.none c none) Set.univ (bodyAt0 t) (fun _ => back0 V c t) := by
  unfold given0 back0 bodyAt0
  rw [body_later _ _ _ _ _ _ _ _ _ _ _ _ _ (fun h => ht ((cond_iff t).mp h)), inv0, inv0,
    show (dat0 V c).owesAt () t.succ = (dat0 V c).owesAt () t.castSucc from rfl,
    left0_0, left0_1, left0_3, left0_4]
  simp only [found0_0, found0_1, found0_2 V c t ht]
  unfold scratchAt
  rw [if_neg (show ¬ t.castSucc.val = 0 from ht), if_neg (show ¬ t.succ.val = 0 by simp)]
  iintro ⟨⟨Hs, HΦ⟩, Ho, ⟨%d0, H0⟩, ⟨%d1, H1⟩, ⟨%d2, H2⟩, ⟨%d3, H3⟩, ⟨%d4, H4⟩⟩
  iapply (run_later c Set.univ (grid0.coords t) _ _ _ _ _ _ _ _ _ _ _ _ (scratchOf V c) _)
  isplitl [H3]; · iexists _; iexact H3
  isplitl [H4]; · iexists _; iexact H4
  isplitl [Hs]; · iexact Hs
  iintro ⟨H3, H4, Hs⟩
  isplitl [Hs HΦ]
  · isplitl [Hs]; · iexact Hs
    iexact HΦ
  isplitl [Ho]; · iexact Ho
  isplitl [H0]; · iexact H0
  isplitl [H1]; · iexact H1
  isplitl [H2]; · iapply (kept0_2_intro V c t); iexact H2
  isplitl [H3]; · iexact H3
  iexact H4

/-- The first call's body, at every point. -/
theorem point0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  by_cases ht : t.val = 0
  · exact triple_restated (point0_first V c t ht) rfl .rfl fun _ => .rfl
  · exact triple_restated (point0_later V c t ht) rfl .rfl fun _ => .rfl

/-- The second call's body at point `t`: it reads its four blocks and leaves the block of weights. -/
theorem point1_at (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t))) := by
  unfold bodyAt1
  simp only [found1_0, found1_1, found1_2, found1_3]
  rw [show (dat1 V c).Φ t.succ = (dat1 V c).Φ t.castSucc from rfl,
    show (dat1 V c).owesAt () t.succ = (dat1 V c).owesAt () t.castSucc from rfl,
    left1_0, left1_1, left1_2, left1_3, left1_4]
  iintro ⟨HΦ, Ho, ⟨%d0, H0⟩, ⟨%d1, H1⟩, ⟨%d2, H2⟩, ⟨%d3, H3⟩, ⟨%d4, H4⟩⟩
  iapply (run_weights c Set.univ (grid1.coords t) _ _ _ _ _ _ _ _ _ _ (part1 V c 0 t) (part1 V c 1 t) (part1 V c 2 t) (part1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The second call's body, at every point. -/
theorem point1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (point1_at V c t) rfl .rfl fun _ => .rfl

/-- What the first call is handed besides its windows is its invariant at the start. -/
theorem enter0 (c : Dev nD) : Pipeline.ΦA spec0 c ⊢ (dat0 (F := F) V c).Φ 0 := by
  rw [inv0]
  unfold Pipeline.ΦA aside scratchAt
  rw [if_pos (show (0 : Fin (cfg0.N + 1)).val = 0 from rfl), scopedRest0_eq]
  simp only [owns_whole]
  iintro ⟨⟨Hs, H⟩, Hr⟩
  isplitl [Hs]; · iexact Hs
  isplitl [H]; · iexact H
  iexact Hr

/-- The first call's invariant at the end gives that back. -/
theorem leave0 (c : Dev nD) : (dat0 (F := F) V c).Φ (Fin.last cfg0.N) ⊢ Pipeline.ΦA spec0 c := by
  rw [inv0]
  unfold Pipeline.ΦA aside scratchAt
  rw [if_neg (show ¬ (Fin.last cfg0.N).val = 0 by rw [Fin.val_last, show cfg0.N = 64 from N_0]; omega), scopedRest0_eq]
  simp only [owns_whole]
  iintro ⟨Hs, H, Hr⟩
  isplitl [Hs H]
  · isplitl [Hs]; · iexists _; iexact Hs
    iexact H
  iexact Hr

end Data

end Cert.KernelIdeal.Hand

end
-- ==== Proof.RunIdeal.lean ====
/- The run of the whole program: the first call, then the second, from the launch to the end. -/
module

public import proofs.«01_k».proof.Proof.Gen.KernelIdeal.Launch
public import proofs.«01_k».proof.Proof.Gen.KernelIdeal.Points
public import proofs.«01_k».proof.Proof.CallsIdeal
public import Idealize.ShloMosaic.Lib.Pipeline.FrameBody
public import Idealize.ShloMosaic.Lib.Pipeline.Value
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two argument arrays. -/
abbrev argList : List (Ref sig .tc) := [main_arg0, main_arg1]

/-- What every buffer holds at the launch. -/
abbrev memStart : Dev nD → Valuation τ sig (Elt F) := fun c b => (s₀ m ρ).mem ((c : Dev nD), b)
/-- At the launch the arguments are the launch's. -/
theorem start_args (c : Dev nD) : ∀ a ∈ argList, memStart m ρ c (Proc.devRef .tc a) = m ((c : Thread nD τ).loc a) := fun _ _ => rfl
/-- The same, as the first call's data takes it. -/
abbrev seenStart : (c : Dev nD) → (b : Ref sig .tc) → Buf (Elt F) ((c : Thread nD τ).loc b) := fun c b => memStart m ρ c b
/-- What every buffer holds between the two calls: the first call's arrays at what it leaves in them. -/
def memMid (c : Dev nD) : Valuation τ sig (Elt F) :=
  Pipeline.withArrays spec0 c (memStart m ρ c) fun w => (dat0 (seenStart m ρ) c).arrAt w cfg0.N
/-- Each array of the first call, between the calls. -/
theorem mid_arr (c : Dev nD) (w : Fin cfg0.W) :
    memMid m ρ c (Proc.devRef .tc (Pipeline.arrRef spec0 w)) = (dat0 (seenStart m ρ) c).arrAt w cfg0.N := by
  unfold memMid; exact Pipeline.withArrays_arr spec0 launch0.win.arr_inj c _ _ w
/-- A buffer that is no array of the first call is untouched by it. -/
theorem mid_other (c : Dev nD) (b : Ref sig .tc) (hb : ∀ w, Pipeline.arrRef spec0 w ≠ b) :
    memMid m ρ c (Proc.devRef .tc b) = memStart m ρ c (Proc.devRef .tc b) := by
  unfold memMid; exact Pipeline.withArrays_of_ne spec0 c _ _ b hb
/-- A buffer that the first call does not write is untouched by it. -/
theorem mid_kept (c : Dev nD) (r : Ref sig .tc) (h : ∀ w : Fin cfg0.W, Pipeline.arrRef spec0 w = r → (cfg0.win w).isOut = false) :
    memMid m ρ c (Proc.devRef .tc r) = memStart m ρ c (Proc.devRef .tc r) := by
  by_cases hw : ∃ w : Fin cfg0.W, Pipeline.arrRef spec0 w = r
  · obtain ⟨w, rfl⟩ := hw
    exact (mid_arr m ρ c w).trans (((dat0 (seenStart m ρ) c).arrAt_in w (h w rfl) _).trans (dat0_A (seenStart m ρ) c w))
  · exact mid_other m ρ c r fun w e => hw ⟨w, e⟩
/-- The first call writes no argument. -/
theorem args_in0 : ∀ a ∈ argList, ∀ w : Fin cfg0.W, Pipeline.arrRef spec0 w = a → (cfg0.win w).isOut = false :=
  ListAll.forall_mem_of_all_decide (by decide +kernel)
/-- Between the calls the arguments are the launch's. -/
theorem mid_args (c : Dev nD) : ∀ a ∈ argList, memMid m ρ c (Proc.devRef .tc a) = m ((c : Thread nD τ).loc a) :=
  fun a ha => (mid_kept m ρ c a (args_in0 a ha)).trans (start_args m ρ c a ha)
/-- The same contents, as the second call's data takes them. -/
abbrev seenMid : (c : Dev nD) → (b : Ref sig .tc) → Buf (Elt F) ((c : Thread nD τ).loc b) := fun c b => memMid m ρ c b
/-- The first call's arrays at its end, in the form the launch asks for. -/
theorem left_arrays0 (c : Dev nD) (w : Fin cfg0.W) : (dat0 (seenStart m ρ) c).arrAt w cfg0.N = seenMid m ρ c (Pipeline.arrRef spec0 w) :=
  (mid_arr m ρ c w).symm
/-- The other buffers at its end, in the form the launch asks for. -/
theorem left_rest0 (c : Dev nD) : ∀ b, b ∉ Finset.univ.image (Pipeline.arrRef spec0) → seenMid m ρ c b = seenStart m ρ c b :=
  fun b hb => mid_other m ρ c b fun w e => hb (Finset.mem_image.mpr ⟨w, Finset.mem_univ _, e⟩)

/-- What every buffer holds at the end: the second call's arrays at what it leaves in them. -/
def memEnd (c : Dev nD) : Valuation τ sig (Elt F) :=
  Pipeline.withArrays spec1 c (memMid m ρ c) fun w => (dat1 (seenMid m ρ) c).arrAt w cfg1.N
/-- Each array of the second call, at the end. -/
theorem end_arr (c : Dev nD) (w : Fin cfg1.W) :
    memEnd m ρ c (Proc.devRef .tc (Pipeline.arrRef spec1 w)) = (dat1 (seenMid m ρ) c).arrAt w cfg1.N := by
  unfold memEnd; exact (dat1 (seenMid m ρ) c).withArrays_arrAt launch₀1.sharedIn _ (dat1_A (seenMid m ρ) c) w
/-- A buffer that is no array of the second call is untouched by it. -/
theorem end_other (c : Dev nD) (b : Ref sig .tc) (hb : ∀ w, Pipeline.arrRef spec1 w ≠ b) :
    memEnd m ρ c (Proc.devRef .tc b) = memMid m ρ c (Proc.devRef .tc b) := by
  unfold memEnd; exact Pipeline.withArrays_of_ne spec1 c _ _ b hb
/-- A buffer that the second call does not write is untouched by it. -/
theorem end_kept (c : Dev nD) (r : Ref sig .tc) (h : ∀ w : Fin cfg1.W, Pipeline.arrRef spec1 w = r → (cfg1.win w).isOut = false) :
    memEnd m ρ c (Proc.devRef .tc r) = memMid m ρ c (Proc.devRef .tc r) := by
  by_cases hw : ∃ w : Fin cfg1.W, Pipeline.arrRef spec1 w = r
  · obtain ⟨w, rfl⟩ := hw
    exact (end_arr m ρ c w).trans (((dat1 (seenMid m ρ) c).arrAt_in w (h w rfl) _).trans (dat1_A (seenMid m ρ) c w))
  · exact end_other m ρ c r fun w e => hw ⟨w, e⟩
/-- The second call writes no argument. -/
theorem args_in1 : ∀ a ∈ argList, ∀ w : Fin cfg1.W, Pipeline.arrRef spec1 w = a → (cfg1.win w).isOut = false :=
  ListAll.forall_mem_of_all_decide (by decide +kernel)
/-- At the end the arguments are the launch's. -/
theorem end_args (c : Dev nD) : ∀ a ∈ argList, memEnd m ρ c (Proc.devRef .tc a) = m ((c : Thread nD τ).loc a) :=
  fun a ha => (end_kept m ρ c a (args_in1 a ha)).trans (mid_args m ρ c a ha)
/-- The same contents, by reference. -/
abbrev seenEnd : (c : Dev nD) → (b : Ref sig .tc) → Buf (Elt F) ((c : Thread nD τ).loc b) := fun c b => memEnd m ρ c b
/-- The second call's arrays at its end, in the form the launch asks for. -/
theorem left_arrays1 (c : Dev nD) (w : Fin cfg1.W) : (dat1 (seenMid m ρ) c).arrAt w cfg1.N = seenEnd m ρ c (Pipeline.arrRef spec1 w) :=
  (end_arr m ρ c w).symm
/-- The other buffers at its end, in the form the launch asks for. -/
theorem left_rest1 (c : Dev nD) : ∀ b, b ∉ Finset.univ.image (Pipeline.arrRef spec1) → seenEnd m ρ c b = seenMid m ρ c b :=
  fun b hb => end_other m ρ c b fun w e => hb (Finset.mem_image.mpr ⟨w, Finset.mem_univ _, e⟩)

/-- The first argument ends as launched. -/
theorem end_arg0 (c : Dev nD) : memEnd m ρ c (Proc.devRef .tc main_arg0) = m ((c : Thread nD τ).loc main_arg0) :=
  end_args m ρ c main_arg0 (by decide)
/-- The second argument ends as launched. -/
theorem end_arg1 (c : Dev nD) : memEnd m ρ c (Proc.devRef .tc main_arg1) = m ((c : Thread nD τ).loc main_arg1) :=
  end_args m ρ c main_arg1 (by decide)

/-- Neither call reads a table ahead of its grid. -/
abbrev noTables : (p : Fin 2) → (pcfgs (F := F) p).Adm := fun p => (cfgs p).toPCfg_adm
/-- The data of the two calls, each at what it finds. -/
def callDats : (p : Fin 2) → (c : Dev nD) → Dat τ (Elt F) Unit ℕ (UR sig nD τ) ℕ (Pipeline.pin (pcfgs (F := F)) noTables p) c
  | ⟨0, _⟩ => fun c => dat0 (seenStart m ρ) c
  | ⟨1, _⟩ => fun c => dat1 (seenMid m ρ) c
/-- No loop needs a measure. -/
abbrev 𝒱₀ : Variants := Variants.none
/-- Nothing is owed between threads. -/
abbrev L : GSem nD τ sig → Finset Unit := fun _ => ∅
/-- So no level is needed. -/
abbrev lv : GSem nD τ sig → Unit → ℕ := fun _ _ => 0
/-- What goes along with the buffers: the generator's register and the empty debt. -/
abbrev beside (c : Dev nD) : sProp 𝕄 := iprop((∃ r, prngReg c r) ∗ ∃ W, owes (c : Thread nD τ) (0 : CellTallies nD τ sig Unit) W)
/-- A buffer of the launch is among those followed through the run. -/
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is known at the end: every buffer's contents. -/
abbrev atEnd (c : Dev nD) : sProp 𝕄 := iprop(StableHlo.held (c : Thread nD τ) (Pipeline.ucRefs τ sig) (memEnd m ρ c) ∗ ∃ r, prngReg c r)

set_option backward.isDefEq.respectTransparency.types false in
/-- The first call as a stretch of the run, with its own invariant about the scratch array. -/
def seg0 : Pipeline.RegionSeg (pcfgs (F := F)) noTables (callDats m ρ) () defs₀ 𝒱₀ L lv 0 where
  win := launch0.win.to₀
  block_pos := launch0.block_pos
  stage_whole := launch0.stage_whole
  K := PEmpty
  osem k := k.elim
  ho := Pipeline.OwnSemFacts.none _
  hbody c := (point0 (seenStart m ρ) c).loose
  hwaits := Pipeline.hwaits_of_owed_zero _ _ _ _ L lv 0 fun _ _ => rfl
  pre c := iprop(StableHlo.held (c : Thread nD τ) (Pipeline.ucRefs τ sig) (memStart m ρ c) ∗ beside c)
  post c := iprop(StableHlo.held (c : Thread nD τ) (Pipeline.ucRefs τ sig) (memMid m ρ c) ∗ beside c)
  X c := iprop(∃ r, prngReg c r)
  Y c := iprop(∃ r, prngReg c r)
  Z c := Pipeline.unscopedRest (Ix := Unit) (Name := ℕ) (U := UR sig nD τ) (Lvl := ℕ) spec0 c (seenStart m ρ c)
  hentry c := by
    rw [Pipeline.ownSems0_none]
    have hsplit := Pipeline.arrays_of_unscopedBufs (p := 0) (pcfgs (F := F)) noTables (callDats m ρ) launch0.win launch0.arr_whole c
      ((callDats m ρ 0 c).share_full fun _ => rfl) (seenStart m ρ c) (dat0_A (seenStart m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callDats m ρ 0 c).Φ 0 = (dat0 (seenStart m ρ) c).Φ 0 from rfl]
    iintro ⟨Hp, -, Hr⟩
    iapply (enter0 (seenStart m ρ) c)
    unfold Pipeline.ΦA
    isplitl [Hr]; · iexact Hr
    iexact Hp
  hout c := by
    rw [Pipeline.ownSems0_none, show (callDats m ρ 0 c).Φ (Fin.last _) = (dat0 (seenStart m ρ) c).Φ (Fin.last cfg0.N) from rfl]
    refine (leave0 (seenStart m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (callDats m ρ) ((callDats m ρ 0 c).share_full fun _ => rfl)
      (seenStart m ρ c) (seenMid m ρ c) ((callDats m ρ 0 c).arrAt · cfg0.N) (left_arrays0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a stretch of the run; two of its inputs share one array. -/
def seg1 : Pipeline.RegionSeg (pcfgs (F := F)) noTables (callDats m ρ) () defs₀ 𝒱₀ L lv 1 where
  win := launch₀1.win
  block_pos := launch₀1.block_pos
  stage_whole := launch₀1.stage_whole
  K := PEmpty
  osem k := k.elim
  ho := Pipeline.OwnSemFacts.none _
  hbody c := (point1 (seenMid m ρ) c).loose
  hwaits := Pipeline.hwaits_of_owed_zero _ _ _ _ L lv 1 fun _ _ => rfl
  pre c := iprop(StableHlo.held (c : Thread nD τ) (Pipeline.ucRefs τ sig) (memMid m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (seenMid m ρ c)
  hentry c := by
    rw [Pipeline.ownSems0_none]
    have hsplit := Pipeline.arrays_of_unscopedBufs_shared (p := 1) (pcfgs (F := F)) noTables (callDats m ρ) launch₀1.win launch₀1.sharedIn launch₀1.arr_whole c
      (fun _ _ => rfl) (seenMid m ρ c) (dat1_A (seenMid m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (callDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) noTables (Ix := Unit) (Name := ℕ) (U := UR sig nD τ) (Lvl := ℕ)
      launch₀1.win launch₀1.sharedIn launch₀1.arr_whole c (callDats m ρ) (fun _ _ => rfl)
      (seenMid m ρ c) (seenEnd m ρ c) ((callDats m ρ 1 c).arrAt · cfg1.N) (left_arrays1 m ρ c) (left_rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The run is the two calls in turn. -/
abbrev mainSegs : List (Pipeline.Seg (pcfgs (F := F)) noTables (callDats m ρ) () defs₀ 𝒱₀ L lv) :=
  [ .region (seg0 m ρ),
    .region (seg1 m ρ) ]
/-- The program is that run. -/
theorem main_is_segs (c : Dev nD) : main (F := F) c = Pipeline.Seg.run (mainSegs m ρ) := (main_chain c).trans (by chain_rfl)

/-- There is no semaphore outside the calls. -/
theorem scoped_all : ∀ sm : SemLoc sig, sm.isScoped .tc = true := by decide

set_option backward.isDefEq.respectTransparency.types false in
/-- The program runs to its end without fault, leaves its arguments and every counter as they were, and ends with the weights
    that the second call's data names. -/
theorem kernel_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = memEnd m ρ c (Proc.devRef .tc main_v1))
      ∧ r.2.sem = fun _ => 0) :=
  Pipeline.θ_run_regions_kit_sems (pcfgs (F := F)) noTables (callDats m ρ) () cellOf_inj emb₁ defs₀ 𝒱₀ L lv m ρ main (mainSegs m ρ)
    (fun c Q => by rw [main_is_segs m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memStart m ρ c) ∗ beside c)) (Tₙ := atEnd m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (memStart m ρ c)
        from Pipeline.unscopedBufs_held c (memStart m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (memEnd m ρ c) s')
      isplitl [Hh] <;> iassumption)
    (hQ := fun s h hz => ⟨(fun c =>
      ⟨(h c _ (held_mem main_arg0 (by decide))).trans (end_arg0 m ρ c),
       (h c _ (held_mem main_arg1 (by decide))).trans (end_arg1 m ρ c),
       h c _ (held_mem main_v1 (by decide))⟩), funext fun g => hz g (.inr (scoped_all g.2))⟩)

end Cert.KernelIdeal.Hand

end
-- ==== Proof.Frames.lean ====
/- What is claimed of each program by itself: it runs to its end, leaves its arguments and every counter as they were;
   and that the ideal kernel is the kernel with its one rounded constant named. -/
module

public import proofs.«01_k».proof.Defs
public import proofs.«01_k».proof.Proof.Run
public import proofs.«01_k».proof.Proof.RunIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Hand

open Idealize.ShloMosaic Idealize.SL.Sem

/-- The kernel, over words, runs to its end and leaves its arguments and counters alone. -/
theorem kernel_frame : Cert.quiescent_Kernel := fun m ρ _ =>
  (θ_run Cert.Kernel.defs _ _).mono (fun _ h => ⟨fun c => ⟨(h.1 c).1, (h.1 c).2.1⟩, h.2⟩)
    (Cert.Kernel.Hand.kernel_run (F := Bits) m ρ)

/-- The kernel over the extended reals does. -/
theorem ideal_frame (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.KernelIdeal.Hand.kernel_run (F := Ideal) m ρ)

/-- The reference over the extended reals does. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The one named constant has the value that the ideal kernel gives it. -/
theorem kernel_ideal : Cert.preserves_Kernel_KernelIdeal :=
  IdealRules.named_const.statement Cert.KernelIdeal.κ "log2_e" .f32 0x3FB8AA3B#32 (((Real.log 2)⁻¹ : ℝ) : EReal) rfl

end Cert.Hand

end
-- ==== Proof.Columns.lean ====
/- The columns of the selection network over the extended reals.

   A column is what one list holds at one of the 128 places: 32 values. Every stage acts on every column alone, and is
   there a stage of Batcher's network, so that the sorting stages leave a column descending and a merge keeps the 32
   greatest values of two columns. -/
module

public import proofs.«01_k».proof.Proof.Net
public import Idealize.ShloMosaic.PureOps.Ideal
public import Idealize.ShloMosaic.Lib.SortNet.Fold
public import Idealize.ShloMosaic.Lib.Pointwise.Index

@[expose] public section

set_option maxRecDepth 16384

noncomputable section

namespace Cert.Net

open Idealize.ShloMosaic Idealize.ShloMosaic.SortNet

/-- The 32 values of list `l` at place `b`. -/
def col {L : ℕ} (a : FVec Ideal (T3 32 L) .f32) (l : Fin L) (b : Fin 128) : Fin (2 ^ 5) → EReal :=
  fun k => a (ix3 (n0 := 32) k l b)

/-- A half read at a group and a row inside it is the row of the block it was cut from. -/
theorem half_at {g d L : ℕ} (o : ℕ) (h : g * 2 * d = 32) (ho : o < 2) (a : FVec Ideal (T3 32 L) .f32)
    (G : Fin g) (D : Fin d) (l : Fin L) (b : Fin 128) (k : Fin 32) (hk : k.val = (G.val * 2 + o) * d + D.val) :
    half g d L o h ho a (ix4 G D l b) = a (ix3 k l b) := by
  unfold half
  rw [shapeCast_apply _ _ _ (ix5 (n0 := g) (n1 := 1) (n2 := d) (n3 := L) (n4 := 128) G 0 D l b)
      (by rw [Shape.rowMajor_val_five, Shape.rowMajor_val_four]
          show (((G.val * 1 + 0) * d + D.val) * L + l.val) * 128 + b.val = ((G.val * d + D.val) * L + l.val) * 128 + b.val
          rw [Nat.mul_one, Nat.add_zero]),
    extractStridedSlice_apply _ _ _ _ (ix5 (n0 := g) (n1 := 2) (n2 := d) (n3 := L) (n4 := 128) G ⟨o, ho⟩ D l b)
      (by intro x; fin_cases x <;> first | exact (Nat.zero_add _).symm | rfl),
    shapeCast_apply _ _ _ (ix3 (n0 := 32) (n1 := L) (n2 := 128) k l b)
      (by rw [Shape.rowMajor_val_five, Shape.rowMajor_val_three]
          show (k.val * L + l.val) * 128 + b.val = (((G.val * 2 + o) * d + D.val) * L + l.val) * 128 + b.val
          rw [hk])]

/-- A row of a lower half after the halves are put back together. -/
theorem join_low {g d L : ℕ} (h : g * 2 * d = 32) (x y : FVec Ideal (T4 g d L) .f32)
    (G : Fin g) (D : Fin d) (l : Fin L) (b : Fin 128) (k : Fin 32) (hk : k.val = (G.val * 2) * d + D.val) :
    join g d L h x y (ix3 k l b) = x (ix4 G D l b) := by
  unfold join
  rw [shapeCast_apply _ _ _ (ix5 (n0 := g) (n1 := 2) (n2 := d) (n3 := L) (n4 := 128) G 0 D l b)
      (by rw [Shape.rowMajor_val_five, Shape.rowMajor_val_three]
          show (((G.val * 2 + 0) * d + D.val) * L + l.val) * 128 + b.val = (k.val * L + l.val) * 128 + b.val
          rw [hk, Nat.add_zero])]
  refine (concatenate_pair_apply_left (t := T5 g 2 d L) (s₁ := T5 g 1 d L) (s₂ := T5 g 1 d L) _ _ _ _ _ rfl (ix5 (n0 := g) (n1 := 1) (n2 := d) (n3 := L) (n4 := 128) G 0 D l b)
      (by intro x; fin_cases x <;> rfl)).trans ?_
  rw [shapeCast_apply _ _ _ (ix4 (n0 := g) (n1 := d) (n2 := L) (n3 := 128) G D l b)
      (by rw [Shape.rowMajor_val_five, Shape.rowMajor_val_four]
          show ((G.val * d + D.val) * L + l.val) * 128 + b.val = (((G.val * 1 + 0) * d + D.val) * L + l.val) * 128 + b.val
          rw [Nat.mul_one, Nat.add_zero])]

/-- A row of an upper half after the halves are put back together. -/
theorem join_high {g d L : ℕ} (h : g * 2 * d = 32) (x y : FVec Ideal (T4 g d L) .f32)
    (G : Fin g) (D : Fin d) (l : Fin L) (b : Fin 128) (k : Fin 32) (hk : k.val = (G.val * 2 + 1) * d + D.val) :
    join g d L h x y (ix3 k l b) = y (ix4 G D l b) := by
  unfold join
  rw [shapeCast_apply _ _ _ (ix5 (n0 := g) (n1 := 2) (n2 := d) (n3 := L) (n4 := 128) G 1 D l b)
      (by rw [Shape.rowMajor_val_five, Shape.rowMajor_val_three]
          show (((G.val * 2 + 1) * d + D.val) * L + l.val) * 128 + b.val = (k.val * L + l.val) * 128 + b.val
          rw [hk])]
  refine (concatenate_pair_apply_right (t := T5 g 2 d L) (s₁ := T5 g 1 d L) (s₂ := T5 g 1 d L) _ _ _ _ _ rfl rfl (ix5 (n0 := g) (n1 := 1) (n2 := d) (n3 := L) (n4 := 128) G 0 D l b)
      (by intro x hx; fin_cases x <;> first | rfl | exact absurd rfl hx) rfl).trans ?_
  rw [shapeCast_apply _ _ _ (ix4 (n0 := g) (n1 := d) (n2 := L) (n3 := 128) G D l b)
      (by rw [Shape.rowMajor_val_five, Shape.rowMajor_val_four]
          show ((G.val * d + D.val) * L + l.val) * 128 + b.val = (((G.val * 1 + 0) * d + D.val) * L + l.val) * 128 + b.val
          rw [Nat.mul_one, Nat.add_zero])]

/-- A row whose bit `s` is clear is a row of a lower half. -/
theorem clear_iff (k s : ℕ) : k &&& 2 ^ s = 0 ↔ k / 2 ^ s % 2 = 0 := by
  rw [and_two_pow_eq_zero_iff_testBit, Nat.testBit_eq_decide_div_mod_eq, decide_eq_false_iff_not]
  omega

/-- Two halves put together column by column, when each pair of rows holds the greater and the lesser of what was there. -/
theorem join_col {g d L : ℕ} (s : ℕ) (hs : s < 5) (hd : d = 2 ^ s) (h : g * 2 * d = 32) (w : Fin (2 ^ 5) → Bool)
    (a : FVec Ideal (T3 32 L) .f32) (x y : FVec Ideal (T4 g d L) .f32) (l : Fin L) (b : Fin 128)
    (hx : ∀ (G : Fin g) (D : Fin d) (lo hi : Fin (2 ^ 5)), lo.val = (G.val * 2) * d + D.val → hi.val = (G.val * 2 + 1) * d + D.val →
      x (ix4 G D l b) = if w lo then max (col a l b lo) (col a l b hi) else min (col a l b lo) (col a l b hi))
    (hy : ∀ (G : Fin g) (D : Fin d) (lo hi : Fin (2 ^ 5)), lo.val = (G.val * 2) * d + D.val → hi.val = (G.val * 2 + 1) * d + D.val →
      y (ix4 G D l b) = if w lo then min (col a l b lo) (col a l b hi) else max (col a l b lo) (col a l b hi)) :
    col (join g d L h x y) l b = Network.apply (stage 5 s w) (col a l b) := by
  have key : ∀ lo : Fin (2 ^ 5), lo.val &&& 2 ^ s = 0 →
      col (join g d L h x y) l b lo = Network.apply (stage 5 s w) (col a l b) lo ∧
      col (join g d L h x y) l b (partner 5 s lo) = Network.apply (stage 5 s w) (col a l b) (partner 5 s lo) := by
    intro lo hlo
    have hp := partner_val_of_clear hs lo hlo
    obtain ⟨e1, e2⟩ := apply_stage hs w (col a l b) lo hlo
    rw [e1, e2]
    have hc := (clear_iff _ _).mp hlo
    rw [← hd] at hc hp
    have hd0 : 0 < d := by rw [hd]; exact Nat.two_pow_pos s
    have hlt := lo.isLt
    have hdm := Nat.div_add_mod lo.val d
    have hmlt := Nat.mod_lt lo.val hd0
    have hq2 : lo.val / d = lo.val / d / 2 * 2 := by omega
    have hg : lo.val / d / 2 < g := by
      rw [Nat.div_div_eq_div_mul]
      apply Nat.div_lt_of_lt_mul
      calc lo.val < 32 := hlt
        _ = d * 2 * g := by rw [← h]; simp only [Nat.mul_comm, Nat.mul_left_comm]
    have hlo' : lo.val = (lo.val / d / 2 * 2) * d + lo.val % d := by rw [← hq2, Nat.mul_comm]; omega
    have hhi' : (partner 5 s lo).val = (lo.val / d / 2 * 2 + 1) * d + lo.val % d := by rw [hp, Nat.add_mul]; omega
    constructor
    · rw [← hx ⟨lo.val / d / 2, hg⟩ ⟨lo.val % d, hmlt⟩ lo (partner 5 s lo) hlo' hhi']
      exact join_low h x y ⟨lo.val / d / 2, hg⟩ ⟨lo.val % d, hmlt⟩ l b lo hlo'
    · rw [← hy ⟨lo.val / d / 2, hg⟩ ⟨lo.val % d, hmlt⟩ lo (partner 5 s lo) hlo' hhi']
      exact join_high h x y ⟨lo.val / d / 2, hg⟩ ⟨lo.val % d, hmlt⟩ l b (partner 5 s lo) hhi'
  funext k
  by_cases hk : k.val &&& 2 ^ s = 0
  · exact (key k hk).1
  · have := (key (partner 5 s k) (partner_and_of_set hs k hk)).2
    rwa [partner_partner hs] at this

/-- A stage that puts every greater value in the lower row is the network's stage with that direction everywhere. -/
theorem down_col {g d L : ℕ} (s : ℕ) (hs : s < 5) (hd : d = 2 ^ s) (h : g * 2 * d = 32) (a : FVec Ideal (T3 32 L) .f32)
    (l : Fin L) (b : Fin 128) :
    col (down g d L h a) l b = Network.apply (stage 5 s fun _ => true) (col a l b) := by
  refine join_col s hs hd h _ a _ _ l b ?_ ?_
  · intro G D lo hi hlo hhi
    rw [if_pos rfl]
    show max (half g d L 0 h _ a (ix4 G D l b)) (half g d L 1 h _ a (ix4 G D l b)) = _
    rw [half_at 0 h (by decide) a G D l b lo (by rw [hlo, Nat.add_zero]), half_at 1 h (by decide) a G D l b hi hhi]
    rfl
  · intro G D lo hi hlo hhi
    rw [if_pos rfl]
    show min (half g d L 0 h _ a (ix4 G D l b)) (half g d L 1 h _ a (ix4 G D l b)) = _
    rw [half_at 0 h (by decide) a G D l b lo (by rw [hlo, Nat.add_zero]), half_at 1 h (by decide) a G D l b hi hhi]
    rfl

/-- A stage with directions is the network's stage whose direction at a row is its group's. -/
theorem turn_col {g d L : ℕ} (s : ℕ) (hs : s < 5) (hd : d = 2 ^ s) (h : g * 2 * d = 32) (cm cs : BitVec 32)
    (w : Fin (2 ^ 5) → Bool)
    (hw : ∀ (G : Fin g) (lo : Fin (2 ^ 5)), lo.val / (2 * d) = G.val →
      (dirBit g cm cs (ix4 G 0 0 0) = 1#1 ↔ w lo = true))
    (a : FVec Ideal (T3 32 L) .f32) (l : Fin L) (b : Fin 128) :
    col (turn g d L h cm cs a) l b = Network.apply (stage 5 s w) (col a l b) := by
  have mask : ∀ (G : Fin g) (D : Fin d),
      broadcastTo (T4 g d L) (shapeCast (TM g) (dirBit g cm cs) rfl) (bcasts_mask g d L) (ix4 G D l b) = dirBit g cm cs (ix4 G 0 0 0) := by
    intro G D
    rw [broadcastTo_apply _ _ _ (ix4 (n0 := g) (n1 := 1) (n2 := 1) (n3 := 1) G 0 0 0)
        (by intro x; fin_cases x
            · show G.val = if g = 1 then 0 else G.val
              have := G.isLt; split <;> omega
            · rfl
            · rfl
            · rfl),
      shapeCast_apply _ _ _ (ix4 (n0 := g) (n1 := 1) (n2 := 1) (n3 := 1) G 0 0 0) rfl]
  have group : ∀ (G : Fin g) (D : Fin d) (lo : Fin (2 ^ 5)), lo.val = (G.val * 2) * d + D.val → lo.val / (2 * d) = G.val := by
    intro G D lo hlo
    have hD := D.isLt
    rw [hlo, Nat.mul_assoc, Nat.mul_comm, Nat.mul_add_div (by omega), Nat.div_eq_of_lt (by omega), Nat.add_zero]
  refine join_col s hs hd h _ a _ _ l b ?_ ?_
  · intro G D lo hi hlo hhi
    show Scalar.select (broadcastTo (T4 g d L) (shapeCast (TM g) (dirBit g cm cs) rfl) (bcasts_mask g d L) (ix4 G D l b))
      (max (half g d L 0 h _ a (ix4 G D l b)) (half g d L 1 h _ a (ix4 G D l b)))
      (min (half g d L 0 h _ a (ix4 G D l b)) (half g d L 1 h _ a (ix4 G D l b))) = _
    rw [mask, half_at 0 h (by decide) a G D l b lo (by rw [hlo, Nat.add_zero]), half_at 1 h (by decide) a G D l b hi hhi]
    unfold Scalar.select
    by_cases hb : w lo = true
    · rw [if_pos hb, if_pos (by exact (hw G lo (group G D lo hlo)).mpr hb)]; rfl
    · rw [if_neg hb, if_neg (by exact mt (hw G lo (group G D lo hlo)).mp hb)]; rfl
  · intro G D lo hi hlo hhi
    show Scalar.select (broadcastTo (T4 g d L) (shapeCast (TM g) (dirBit g cm cs) rfl) (bcasts_mask g d L) (ix4 G D l b))
      (min (half g d L 0 h _ a (ix4 G D l b)) (half g d L 1 h _ a (ix4 G D l b)))
      (max (half g d L 0 h _ a (ix4 G D l b)) (half g d L 1 h _ a (ix4 G D l b))) = _
    rw [mask, half_at 0 h (by decide) a G D l b lo (by rw [hlo, Nat.add_zero]), half_at 1 h (by decide) a G D l b hi hhi]
    unfold Scalar.select
    by_cases hb : w lo = true
    · rw [if_pos hb, if_pos (by exact (hw G lo (group G D lo hlo)).mpr hb)]; rfl
    · rw [if_neg hb, if_neg (by exact mt (hw G lo (group G D lo hlo)).mp hb)]; rfl

/-- The five settling stages are the descending merge of every column. -/
theorem settle_col {L : ℕ} (a : FVec Ideal (T3 32 L) .f32) (l : Fin L) (b : Fin 128) :
    col (settle L a) l b = Network.apply (mergeDescNet 5) (col a l b) := by
  unfold settle
  rw [down_col (d := 1) 0 (by decide) rfl, down_col (d := 2) 1 (by decide) rfl, down_col (d := 4) 2 (by decide) rfl,
    down_col (d := 8) 3 (by decide) rfl, down_col (d := 16) 4 (by decide) rfl]
  rw [← Network.apply_append, ← Network.apply_append, ← Network.apply_append, ← Network.apply_append]
  congr 1

/-- The direction the network gives the blocks of `2 ^ (m + 1)` rows: every other block descends. -/
abbrev dirOf (m : ℕ) : Fin (2 ^ 5) → Bool := fun i => (decide (i.val &&& 2 ^ (m + 1) = 0)) == true

/-- The last level of the sort has one block of all rows: it descends. -/
theorem dirOf_last : dirOf 4 = fun _ => true := by
  funext i; revert i; decide +kernel

/-- The stages of the sort are Batcher's sort of every column. -/
theorem sortRows_col {L : ℕ} (a : FVec Ideal (T3 32 L) .f32) (l : Fin L) (b : Fin 128) :
    col (sortRows L a) l b = Network.apply (sortNet 5 true) (col a l b) := by
  unfold sortRows
  rw [settle_col,
    turn_col (g := 16) (d := 1) 0 (by decide) rfl rfl _ _ (dirOf 3) (by decide +kernel),
    turn_col (g := 8) (d := 2) 1 (by decide) rfl rfl _ _ (dirOf 3) (by decide +kernel),
    turn_col (g := 4) (d := 4) 2 (by decide) rfl rfl _ _ (dirOf 3) (by decide +kernel),
    turn_col (g := 2) (d := 8) 3 (by decide) rfl rfl _ _ (dirOf 3) (by decide +kernel),
    turn_col (g := 16) (d := 1) 0 (by decide) rfl rfl _ _ (dirOf 2) (by decide +kernel),
    turn_col (g := 8) (d := 2) 1 (by decide) rfl rfl _ _ (dirOf 2) (by decide +kernel),
    turn_col (g := 4) (d := 4) 2 (by decide) rfl rfl _ _ (dirOf 2) (by decide +kernel),
    turn_col (g := 16) (d := 1) 0 (by decide) rfl rfl _ _ (dirOf 1) (by decide +kernel),
    turn_col (g := 8) (d := 2) 1 (by decide) rfl rfl _ _ (dirOf 1) (by decide +kernel),
    turn_col (g := 16) (d := 1) 0 (by decide) rfl rfl _ _ (dirOf 0) (by decide +kernel)]
  have e : sortNet 5 true = stage 5 0 (dirOf 0) ++ (stage 5 1 (dirOf 1) ++ (stage 5 0 (dirOf 1) ++ (stage 5 2 (dirOf 2) ++
      (stage 5 1 (dirOf 2) ++ (stage 5 0 (dirOf 2) ++ (stage 5 3 (dirOf 3) ++ (stage 5 2 (dirOf 3) ++ (stage 5 1 (dirOf 3) ++
      (stage 5 0 (dirOf 3) ++ mergeDescNet 5))))))))) := by
    have m : mergeDescNet 5 = (List.range 5).reverse.flatMap fun s => stage 5 s (dirOf 4) := by
      rw [dirOf_last]; rfl
    rw [m]
    unfold sortNet
    simp only [show List.range 5 = [0, 1, 2, 3, 4] from rfl, List.flatMap_cons, List.flatMap_nil,
      show List.range (0 + 1) = [0] from rfl, show List.range (1 + 1) = [0, 1] from rfl, show List.range (2 + 1) = [0, 1, 2] from rfl,
      show List.range (3 + 1) = [0, 1, 2, 3] from rfl, show List.range (4 + 1) = [0, 1, 2, 3, 4] from rfl,
      List.reverse_cons, List.reverse_nil, List.nil_append, List.cons_append, List.append_nil, List.append_assoc]
  rw [e]
  simp only [Network.apply_append]

/-- A flipped column is the column read backwards. -/
theorem flip_at {L : ℕ} (y : FVec Ideal (T3 32 L) .f32) (k : Fin 32) (l : Fin L) (b : Fin 128) :
    flip L y (ix3 k l b) = y (ix3 k.rev l b) := by
  unfold flip
  rw [concatenate_ofFn_apply (t := T3 32 L) (s₁ := T3 1 L) 0 _ _ rfl 1 rfl _ k (Nat.div_one _) (ix3 (n0 := 1) (n1 := L) (n2 := 128) 0 l b)
    (Nat.mod_one _).symm (by intro x hx; fin_cases x <;> first | rfl | exact absurd rfl hx)]
  unfold oneRow
  rw [shapeCast_apply _ _ _ (ix2 (n0 := L) (n1 := 128) l b)
      (by rw [Shape.rowMajor_val_two, Shape.rowMajor_val_three]
          show l.val * 128 + b.val = (0 * L + l.val) * 128 + b.val
          rw [Nat.zero_mul, Nat.zero_add]),
    shapeCast_apply _ _ _ (ix3 (n0 := 1) (n1 := L) (n2 := 128) 0 l b)
      (by rw [Shape.rowMajor_val_two, Shape.rowMajor_val_three]
          show (0 * L + l.val) * 128 + b.val = l.val * 128 + b.val
          rw [Nat.zero_mul, Nat.zero_add]),
    extractStridedSlice_apply _ _ _ _ (ix3 (n0 := 32) (n1 := L) (n2 := 128) k.rev l b)
      (by intro x; fin_cases x
          · show k.rev.val = 31 - k.val + 0
            rw [Fin.val_rev]; omega
          · exact (Nat.zero_add _).symm
          · exact (Nat.zero_add _).symm)]

/-- Two lists merged: the merge of the greater, row by row, of the one and the other read backwards. -/
theorem merge_col {h : ℕ} (a : FVec Ideal (T3 32 (h + h)) .f32) (l : Fin h) (b : Fin 128) :
    col (merge h a) l b = Network.apply (mergeDescNet 5)
      fun j => max (col a (Fin.castAdd h l) b j) (col a (Fin.natAdd h l) b j.rev) := by
  unfold merge
  rw [settle_col]
  congr 1
  funext j
  show max (extractStridedSlice (T3 32 h) ![0, 0, 0] a _ (ix3 (n0 := 32) j l b)) (flip h _ (ix3 (n0 := 32) j l b)) = _
  rw [flip_at, extractStridedSlice_apply _ _ _ _ (ix3 (n0 := 32) (n1 := h + h) (n2 := 128) j (Fin.castAdd h l) b)
      (by intro x; fin_cases x <;> exact (Nat.zero_add _).symm),
    extractStridedSlice_apply _ _ _ _ (ix3 (n0 := 32) (n1 := h + h) (n2 := 128) (Fin.rev (n := 32) j) (Fin.natAdd h l) b)
      (by intro x; fin_cases x <;> first | exact (Nat.zero_add _).symm | rfl)]
  rfl

end Cert.Net

end
-- ==== Proof.Kept.lean ====
/- What the selection network keeps: the 32 greatest of the 8192 values of a column, greatest first. -/
module

public import proofs.«01_k».proof.Proof.Columns
public import Mathlib.Logic.Equiv.Fin.Basic
public import Mathlib.Algebra.BigOperators.Fin

@[expose] public section

set_option maxRecDepth 16384

noncomputable section

namespace Cert.Net

open Idealize.ShloMosaic Idealize.ShloMosaic.SortNet

/-- The 32 greatest of a collection, greatest first. -/
def best (s : Multiset EReal) : List EReal := topList 32 s.toList

/-- The collection of a list: its 32 greatest are the list's. -/
theorem best_coe (l : List EReal) : best (l : Multiset EReal) = topList 32 l :=
  topList_perm (Multiset.coe_eq_coe.mp (Multiset.coe_toList _))

/-- Values that are not among the 32 greatest of a part are not needed. -/
theorem best_add (s t : Multiset EReal) : best ((best s : Multiset EReal) + t) = best (s + t) := by
  induction s using Quot.induction_on with
  | _ s =>
    induction t using Quot.induction_on with
    | _ t =>
      show best ((best (s : Multiset EReal) : Multiset EReal) + (t : Multiset EReal)) = best ((s : Multiset EReal) + (t : Multiset EReal))
      rw [best_coe, Multiset.coe_add, Multiset.coe_add, best_coe, best_coe, topList_append_topList]

/-- The same of many parts at once. -/
theorem best_sum {ι : Type} (S : Finset ι) (f : ι → Multiset EReal) :
    best (∑ i ∈ S, (best (f i) : Multiset EReal)) = best (∑ i ∈ S, f i) := by
  classical
  induction S using Finset.induction_on with
  | empty => rfl
  | insert i S hi ih =>
    rw [Finset.sum_insert hi, Finset.sum_insert hi, best_add, add_comm, ← best_add, ih, best_add, add_comm]

/-- A vector read in another order holds the same values. -/
theorem coe_ofFn_perm {n : ℕ} (f : Fin n → EReal) (σ : Equiv.Perm (Fin n)) :
    (List.ofFn (f ∘ σ) : Multiset EReal) = List.ofFn f :=
  Multiset.coe_eq_coe.mpr (Equiv.Perm.ofFn_comp_perm σ f)

/-- A vector's values one at a time. -/
theorem coe_ofFn {n : ℕ} (f : Fin n → EReal) : (List.ofFn f : Multiset EReal) = ∑ k, ({f k} : Multiset EReal) := by
  rw [← Fin.univ_val_map]
  show _ = (Multiset.map (fun k => ({f k} : Multiset EReal)) Finset.univ.val).sum
  have e := Multiset.map_map (fun x => ({x} : Multiset EReal)) f (Finset.univ : Finset (Fin n)).val
  exact (Multiset.sum_map_singleton _).symm.trans (congrArg Multiset.sum e)

/-- All the values at place `b`. -/
def all {L : ℕ} (a : FVec Ideal (T3 32 L) .f32) (b : Fin 128) : Multiset EReal :=
  ∑ l : Fin L, (List.ofFn (col a l b) : Multiset EReal)

/-- Every column descends. -/
def Falls {L : ℕ} (a : FVec Ideal (T3 32 L) .f32) : Prop := ∀ l b, Antitone (col a l b)

/-- After the sort every column descends. -/
theorem sortRows_falls {L : ℕ} (a : FVec Ideal (T3 32 L) .f32) : Falls (sortRows L a) := fun l b => by
  rw [sortRows_col]; exact sortNet_apply_antitone 5 _

/-- The sort keeps all values. -/
theorem sortRows_all {L : ℕ} (a : FVec Ideal (T3 32 L) .f32) (b : Fin 128) : all (sortRows L a) b = all a b := by
  unfold all
  refine Finset.sum_congr rfl fun l _ => ?_
  rw [sortRows_col]
  obtain ⟨σ, hσ⟩ := Network.exists_perm (sortNet 5 true) (col a l b)
  rw [hσ, coe_ofFn_perm]

/-- A merge of descending columns descends and holds the 32 greatest of the two columns. -/
theorem merge_step {h : ℕ} (a : FVec Ideal (T3 32 (h + h)) .f32) (ha : Falls a) (l : Fin h) (b : Fin 128) :
    Antitone (col (merge h a) l b) ∧ List.ofFn (col (merge h a) l b)
      = best ((List.ofFn (col a (Fin.castAdd h l) b) : Multiset EReal) + (List.ofFn (col a (Fin.natAdd h l) b) : Multiset EReal)) := by
  have hf := foldStep 5 (col a (Fin.castAdd h l) b) (fun j => col a (Fin.natAdd h l) b j.rev) (ha _ b)
    (fun i j hij => ha _ b (Fin.rev_le_rev.mpr hij))
  rw [merge_col]
  refine ⟨hf.1, hf.2.trans ?_⟩
  rw [Multiset.coe_add, best_coe]
  exact topList_perm (List.Perm.append_left _ (Equiv.Perm.ofFn_comp_perm Fin.revPerm (col a (Fin.natAdd h l) b)))

/-- A merge of descending columns descends. -/
theorem merge_falls {h : ℕ} (a : FVec Ideal (T3 32 (h + h)) .f32) (ha : Falls a) : Falls (merge h a) :=
  fun l b => (merge_step a ha l b).1

/-- A merge does not change what is greatest. -/
theorem merge_all {h : ℕ} (a : FVec Ideal (T3 32 (h + h)) .f32) (ha : Falls a) (b : Fin 128) :
    best (all (merge h a) b) = best (all a b) := by
  unfold all
  rw [Fin.sum_univ_add, ← Finset.sum_add_distrib, ← best_sum Finset.univ fun l => _ + _]
  exact congrArg best (Finset.sum_congr rfl fun l _ => congrArg _ (merge_step a ha l b).2)

/-- The whole selection: the column that is left holds the 32 greatest, greatest first. -/
theorem top_col (a : FVec Ideal (T3 32 256) .f32) (b : Fin 128) : List.ofFn (col (top a) 0 b) = best (all a b) := by
  have f0 := sortRows_falls a
  have f1 := merge_falls (h := 128) _ f0
  have f2 := merge_falls (h := 64) _ f1
  have f3 := merge_falls (h := 32) _ f2
  have f4 := merge_falls (h := 16) _ f3
  have f5 := merge_falls (h := 8) _ f4
  have f6 := merge_falls (h := 4) _ f5
  have f7 := merge_falls (h := 2) _ f6
  have f8 := merge_falls (h := 1) _ f7
  have e : best (all (top a) b) = best (all a b) := by
    unfold top
    rw [merge_all _ f7, merge_all _ f6, merge_all _ f5, merge_all _ f4, merge_all _ f3, merge_all _ f2, merge_all _ f1,
      merge_all _ f0, sortRows_all]
  rw [← e]
  unfold all
  rw [Fin.sum_univ_one, best_coe, topList_eq_self]
  · rw [List.pairwise_ofFn]
    exact fun i j hij => f8 0 b hij.le
  · rw [List.length_ofFn]; decide

/-- The rows kept of a block of scores, when row `k` of list `l` is score number `256 k + l`. -/
theorem kept_col (a : FVec Ideal (T3 32 256) .f32) (b : Fin 128) (s : Fin 8192 → EReal)
    (h : ∀ (k : Fin 32) (l : Fin 256), a (ix3 k l b) = s ⟨l.val + 256 * k.val, by omega⟩) :
    List.ofFn (fun k : Fin 32 => kept a (ix2 k b)) = topList 32 (List.ofFn s) := by
  rw [← best_coe]
  have e1 : (fun k : Fin 32 => kept a (ix2 k b)) = col (top a) 0 b := by
    funext k
    unfold kept
    exact shapeCast_apply (s := T3 32 1) (t := ⟨2, ![32, 128]⟩) _ _ _ (ix3 (n0 := 32) (n1 := 1) (n2 := 128) k 0 b)
      (by rw [Shape.rowMajor_val_two, Shape.rowMajor_val_three]
          show (k.val * 1 + 0) * 128 + b.val = k.val * 128 + b.val
          rw [Nat.mul_one, Nat.add_zero])
  rw [e1]
  refine (top_col a b).trans (congrArg best ?_)
  unfold all
  rw [coe_ofFn]
  have e2 : ∀ l : Fin 256, (List.ofFn (col a l b) : Multiset EReal) = ∑ k : Fin 32, ({s ⟨l.val + 256 * k.val, by omega⟩} : Multiset EReal) := by
    intro l
    refine (coe_ofFn _).trans (Finset.sum_congr rfl fun k _ => ?_)
    exact congrArg _ (h k l)
  rw [Finset.sum_congr rfl fun l _ => e2 l, Finset.sum_comm, ← Finset.sum_product', Finset.univ_product_univ]
  exact Fintype.sum_equiv (finProdFinEquiv (m := 32) (n := 256)) _ (fun q : Fin 8192 => ({s q} : Multiset EReal)) fun _ => rfl

end Cert.Net

end
-- ==== Proof.Rank.lean ====
/- The order in which a row's places are ranked, greatest value first, and what the first 32 of them hold. -/
module

public import Idealize.ShloMosaic.PureOps.Ideal
public import Idealize.ShloMosaic.Lib.SortFacts
public import Idealize.ShloMosaic.Lib.SortNet.TopList
public import Mathlib.Data.List.OfFn

@[expose] public section

set_option maxRecDepth 16384

noncomputable section

namespace Cert.Rank

open Idealize.ShloMosaic Idealize.ShloMosaic.SortNet

/-- Whether place `k` of a row goes ahead of place `k'`: its value is greater. -/
def ahead {n : Nat} (r : Fin n → EReal) (k k' : Fin n) : Bool :=
  FloatOps.cmpfTotal (F := Ideal) (φ := .f32) .gt (r k) (r k') == 1#1

/-- One place goes ahead of another exactly when its value is greater. -/
theorem ahead_iff {n : Nat} (r : Fin n → EReal) (k k' : Fin n) : ahead r k k' = true ↔ r k' < r k := by
  show (BitVec.ofBool (decide (r k' < r k)) == 1#1) = true ↔ _
  by_cases h : r k' < r k
  · simp [h]
  · simp [h]

/-- Not going ahead, in terms of the values. -/
theorem ahead_false {n : Nat} (r : Fin n → EReal) (k k' : Fin n) : ahead r k k' = false ↔ r k ≤ r k' := by
  rw [← Bool.not_eq_true, ahead_iff, not_lt]

/-- The place that is ranked `j`-th. -/
def order {n : Nat} (r : Fin n → EReal) : Fin n → Fin n := sortedFrom (ahead r)

/-- No place is ranked twice. -/
theorem order_injective {n : Nat} (r : Fin n → EReal) : Function.Injective (order r) := sortedFrom_injective _

/-- Every place is ranked. -/
theorem order_surjective {n : Nat} (r : Fin n → EReal) : Function.Surjective (order r) := sortedFrom_surjective _

/-- Values fall along the ranking. -/
theorem order_falls {n : Nat} (r : Fin n → EReal) (i j : Fin n) (h : i ≤ j) : r (order r j) ≤ r (order r i) := by
  rcases h.lt_or_eq with h | h
  · refine (ahead_false r _ _).mp (sortedFrom_noInversion (ahead r) (ahead r) ?_ (fun _ _ h => h) ?_ i j h)
    · intro a b hab
      rw [ahead_false]; rw [ahead_iff] at hab; exact hab.le
    · intro a b c hab hbc
      rw [ahead_false] at *; exact hab.trans hbc
  · rw [h]

/-- The `k` greatest values of a row are those of the first `k` ranked places, in the ranking's order. -/
theorem topList_order {n k : Nat} (hk : k ≤ n) (r : Fin n → EReal) :
    topList k (List.ofFn r) = List.ofFn fun i : Fin k => r (order r (Fin.castLE hk i)) := by
  have hp : (List.ofFn fun j => r (order r j)).Perm (List.ofFn r) := by
    have := Equiv.Perm.ofFn_comp_perm (Equiv.ofBijective _ ⟨order_injective r, order_surjective r⟩) r
    exact this
  have hs : (List.ofFn fun j => r (order r j)).Pairwise (· ≥ ·) :=
    List.pairwise_ofFn.mpr fun i j h => order_falls r i j h.le
  have e : (List.ofFn r).insertionSort (· ≥ ·) = List.ofFn fun j => r (order r j) :=
    eq_of_perm_of_descending ((List.perm_insertionSort _ _).trans hp.symm) (List.pairwise_insertionSort _ _) hs
  rw [topList, e]
  refine List.ext_getElem (by simp [hk]) fun i h₁ h₂ => ?_
  simp only [List.getElem_take, List.getElem_ofFn]
  rfl

end Cert.Rank
-- ==== Proof.RowMath.lean ====
/- One row of the attention table: the reference's row and the kernel's row are the same numbers. -/
module

public import proofs.«01_k».proof.Proof.Rank
public import Idealize.ShloMosaic.PureOps.Ideal.Laws
public import Mathlib.Analysis.SpecialFunctions.Pow.Real

@[expose] public section

set_option maxRecDepth 16384

noncomputable section

namespace Cert.Rank

open Idealize.ShloMosaic

/-- The place ranked `i`-th among a row's 32 greatest. -/
def pick (r : Fin 8192 → EReal) (i : Fin 32) : Fin 8192 := order r (Fin.castLE (by decide) i)

/-- The row with every place outside the 32 greatest at minus infinity. -/
def dense (r : Fin 8192 → EReal) (p : Fin 8192) : EReal :=
  open Classical in if ∃ i : Fin 32, pick r i = p then r p else ⊥

/-- The reference's row: the softmax of the dense row. -/
def refRow (r : Fin 8192 → EReal) (p : Fin 8192) : EReal :=
  Ideal.div (Ideal.exp (dense r p - max ⊥ (Finset.univ.fold max ⊥ (dense r))))
    (0 + ∑ k, Ideal.exp (dense r k - max ⊥ (Finset.univ.fold max ⊥ (dense r))))

/-- The number one over the natural logarithm of two. -/
def lg : EReal := (((Real.log 2)⁻¹ : ℝ) : EReal)

/-- The kernel's weight of a row: the exponent, to base two, of the greatest value times the sum. -/
def offset (r : Fin 8192 → EReal) : EReal :=
  r (pick r 0) * lg + Ideal.log (∑ i : Fin 32, Ideal.exp (r (pick r i) - r (pick r 0))) * lg

/-- The kernel's row: a power of two at each place whose value is at least the 32nd greatest. -/
def kerRow (r : Fin 8192 → EReal) (p : Fin 8192) : EReal :=
  if r (pick r 31) ≤ r p then Ideal.exp2 (r p * lg - offset r) else 0

/-- A finite sum of exponentials of real numbers is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Two to a power written in base two of a quotient of exponentials. -/
theorem two_rpow (x M z : ℝ) (hz : 0 < z) :
    Real.rpow 2 (x * (Real.log 2)⁻¹ - (M * (Real.log 2)⁻¹ + Real.log z * (Real.log 2)⁻¹)) = Real.exp (x - M) * z⁻¹ := by
  have h2 : Real.log 2 ≠ 0 := (Real.log_pos (by norm_num)).ne'
  have e : Real.log 2 * (x * (Real.log 2)⁻¹ - (M * (Real.log 2)⁻¹ + Real.log z * (Real.log 2)⁻¹)) = (x - M) - Real.log z := by
    field_simp
    try ring
  rw [show ∀ y : ℝ, Real.rpow 2 y = (2 : ℝ) ^ y from fun _ => rfl, Real.rpow_def_of_pos (by norm_num), e, Real.exp_sub, Real.exp_log hz, div_eq_mul_inv]

/-- A quotient of a real by a positive real. -/
theorem div_coe_pos (a z : ℝ) (hz : 0 < z) : Ideal.div (a : EReal) (z : EReal) = ((a * z⁻¹ : ℝ) : EReal) := by
  rw [Ideal.div, if_neg (by exact_mod_cast hz.ne'), ← EReal.coe_inv, EReal.coe_mul]

/-- THE ROW: when the values are not negative, the 33rd greatest lies below the 32nd and the greatest is finite, the kernel's row is the
    reference's. -/
theorem row_eq (r : Fin 8192 → EReal) (h0 : ∀ p, 0 ≤ r p) (hgap : r (order r 32) < r (order r 31)) (hfin : r (order r 0) < ⊤)
    (p : Fin 8192) : kerRow r p = refRow r p := by
  classical
  have hle : ∀ q, r q ≤ r (order r 0) := fun q => by
    obtain ⟨j, rfl⟩ := order_surjective r q
    exact order_falls r 0 j (Fin.zero_le _)
  obtain ⟨x, hx⟩ : ∃ x : Fin 8192 → ℝ, ∀ q, r q = ((x q : ℝ) : EReal) :=
    ⟨fun q => (r q).toReal, fun q => (EReal.coe_toReal ((hle q).trans_lt hfin).ne
      ((show (⊥ : EReal) < 0 from EReal.bot_lt_zero).trans_le (h0 q)).ne').symm⟩
  have hpick0 : pick r 0 = order r 0 := rfl
  have hpick31 : pick r 31 = order r 31 := rfl
  have hch : ∀ q, (∃ i : Fin 32, pick r i = q) ↔ r (pick r 31) ≤ r q := fun q => by
    constructor
    · rintro ⟨i, rfl⟩
      exact order_falls r _ _ (Fin.le_def.mpr (by show i.val ≤ 31; omega))
    · intro h
      obtain ⟨j, rfl⟩ := order_surjective r q
      by_cases hj : j.val < 32
      · exact ⟨⟨j.val, hj⟩, rfl⟩
      · exact absurd h (not_le.mpr ((order_falls r 32 j (Fin.le_def.mpr (by show 32 ≤ j.val; omega))).trans_lt hgap))
  set M : ℝ := x (pick r 0) with hM
  have hMr : r (pick r 0) = (M : EReal) := hx _
  have hden : ∀ q, dense r q = if ∃ i : Fin 32, pick r i = q then ((x q : ℝ) : EReal) else ⊥ := fun q => by
    rw [← hx q]; unfold dense; congr
  have hmax : max ⊥ (Finset.univ.fold max ⊥ (dense r)) = (M : EReal) := by
    rw [max_eq_right bot_le]
    refine le_antisymm (Finset.fold_max_le _ |>.mpr ⟨bot_le, fun q _ => ?_⟩) (Finset.le_fold_max _ |>.mpr (Or.inr ⟨pick r 0, Finset.mem_univ _, ?_⟩))
    · rw [hden q]
      split
      · rw [← hMr, ← hx q, hpick0]; exact hle q
      · exact bot_le
    · rw [hden, if_pos ⟨0, rfl⟩]
  have hexp : ∀ q, Ideal.exp (dense r q - (M : EReal))
      = ((if ∃ i : Fin 32, pick r i = q then Real.exp (x q - M) else 0 : ℝ) : EReal) := fun q => by
    rw [hden q]
    split
    · rw [← EReal.coe_sub]; rfl
    · rw [EReal.bot_sub]; rfl
  set z : ℝ := ∑ i : Fin 32, Real.exp (x (pick r i) - M) with hz
  have hzpos : 0 < z := Finset.sum_pos (fun i _ => Real.exp_pos _) ⟨0, Finset.mem_univ _⟩
  have hinj : Function.Injective (pick r) := fun a b h => Fin.castLE_injective _ (order_injective r h)
  have hsum : (0 : EReal) + ∑ k, Ideal.exp (dense r k - (M : EReal)) = (z : EReal) := by
    rw [zero_add, Finset.sum_congr rfl (fun q _ => hexp q), sum_coe, ← Finset.sum_filter]
    have : (Finset.univ.filter fun q => ∃ i : Fin 32, pick r i = q) = Finset.univ.image (pick r) := by
      ext q; simp
    rw [this, Finset.sum_image (fun a _ b _ h => hinj h)]
  have hker : (∑ i : Fin 32, Ideal.exp (r (pick r i) - r (pick r 0))) = (z : EReal) := by
    rw [hMr, hz, ← sum_coe]
    refine Finset.sum_congr rfl fun i _ => ?_
    rw [hx (pick r i), ← EReal.coe_sub]; rfl
  have hoff : offset r = ((M * (Real.log 2)⁻¹ + Real.log z * (Real.log 2)⁻¹ : ℝ) : EReal) := by
    rw [offset, hker, hMr, lg, Ideal.log_coe, if_neg (not_le.mpr hzpos), ← EReal.coe_mul, ← EReal.coe_mul, ← EReal.coe_add]
  unfold refRow kerRow
  rw [hmax, hsum, hexp p, div_coe_pos _ _ hzpos]
  by_cases hp : ∃ i : Fin 32, pick r i = p
  · rw [if_pos hp, if_pos ((hch p).mp hp), hoff, hx p, lg, ← EReal.coe_mul, ← EReal.coe_sub, Ideal.exp2_coe, two_rpow _ _ _ hzpos]
  · rw [if_neg hp, if_neg (fun h => hp ((hch p).mpr h)), zero_mul, EReal.coe_zero]

end Cert.Rank
-- ==== Proof.Pure.lean ====
/- What the two bodies store, read at a place, as sums, rankings and rows. -/
module

public import proofs.«01_k».proof.Proof.BodyIdeal
public import proofs.«01_k».proof.Proof.Kept
public import proofs.«01_k».proof.Proof.RowMath
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Cert.Rank

/-- The scores of column `c`: row `c` of `b` against every row of `a`. -/
def colScores (a : FVec Ideal S8192x128 .f32) (b : FVec Ideal S128x128 .f32) (c : Fin 128) (p : Fin 8192) : EReal :=
  ∑ j : Fin 128, a (ix2 p j) * b (ix2 c j)

/-- The scores as rows of lists. -/
theorem scoreRows_at (a : FVec Ideal S8192x128 .f32) (b : FVec Ideal S128x128 .f32) (k : Fin 32) (l : Fin 256) (c : Fin 128) :
    scoreRows (F := Ideal) a b (ix3 k l c) = colScores a b c ⟨l.val + 256 * k.val, by have := k.isLt; have := l.isLt; omega⟩ := by
  pointwise [scoreRows, colScores]
  refine Finset.sum_congr rfl fun j _ => ?_
  have e : (⟨k.val * 256 + l.val, by have := k.isLt; have := l.isLt; omega⟩ : Fin 8192)
      = ⟨l.val + 256 * k.val, by have := k.isLt; have := l.isLt; omega⟩ := Fin.ext (by show k.val * 256 + l.val = l.val + 256 * k.val; omega)
  exact congrArg (fun p => a (ix2 p j) * b (ix2 c j)) e

/-- What is kept of a column: the values of its first 32 ranked places. -/
theorem kept_at (a : FVec Ideal S8192x128 .f32) (b : FVec Ideal S128x128 .f32) (i : Fin 32) (c : Fin 128) :
    Net.kept (F := Ideal) (scoreRows (F := Ideal) a b) (ix2 i c) = colScores a b c (pick (colScores a b c) i) := by
  have h := Net.kept_col (scoreRows (F := Ideal) a b) c (colScores a b c) fun k l => scoreRows_at a b k l c
  rw [topList_order (by decide)] at h
  exact congrFun (List.ofFn_injective h) i

/-- The constant's value. -/
theorem lg2e_eq : (lg2e : Ideal .f32) = lg := rfl

/-- The least kept score, as it is stored. -/
theorem floorOut_at (a : FVec Ideal S8192x128 .f32) (b : FVec Ideal S128x128 .f32) (c d : Fin 128) :
    floorOut (F := Ideal) a b (ix2 c d) = colScores a b c (pick (colScores a b c) 31) := by
  rw [← kept_at]
  pointwise [floorOut, k0_pay1, Net.least]

/-- The sum of exponentials and the greatest value of 32 kept rows. -/
theorem weight_at (k : FVec Ideal ⟨2, ![32, 128]⟩ .f32) (g : EReal) (c : Fin 128) :
    Net.weight (F := Ideal) g k (ix2 0 c)
      = k (ix2 0 c) * g + Ideal.log (∑ i : Fin 32, Ideal.exp (k (ix2 i c) - k (ix2 0 c))) * g := by
  pointwise [Net.weight, Net.total, Net.greatest]

/-- A row of 128 stored as a column repeated along the rows. -/
theorem pay2_at (v : FVec Ideal S1x128 .f32) (c d : Fin 128) : k0_pay2 (F := Ideal) v (ix2 c d) = v (ix2 0 c) := by
  pointwise [k0_pay2]

/-- The offset, as it is stored. -/
theorem weightOut_at (a : FVec Ideal S8192x128 .f32) (b : FVec Ideal S128x128 .f32) (c d : Fin 128) :
    weightOut (F := Ideal) a b (ix2 c d) = offset (colScores a b c) := by
  unfold weightOut
  rw [pay2_at, weight_at]
  simp only [kept_at]
  rfl

/-- The weights the second body stores. -/
theorem weights_at (a : FVec Ideal S8192x128 .f32) (b : FVec Ideal S128x128 .f32) (u v : FVec Ideal S8192x128 .f32) (q : Fin 8192) (c : Fin 128) :
    k1_pay1 (F := Ideal) a b u v (ix2 q c)
      = if u (ix2 q c) ≤ colScores a b c q then Ideal.exp2 (colScores a b c q * lg - v (ix2 q c)) else 0 := by
  pointwise [k1_pay1, colScores]
  rfl

/-- The features the first body stores. -/
theorem features_at (x : FVec Ideal S8192x128 .f32) (w : FVec Ideal S128x128 .f32) (q : Fin 8192) (k : Fin 128) :
    k0_pay3 (F := Ideal) x w (ix2 q k) = max (∑ j : Fin 128, x (ix2 q j) * w (ix2 k j)) 0 := by
  pointwise [k0_pay3]

/-- The same features as the scratch array holds them. -/
theorem scratch_eq (x : FVec Ideal S8192x128 .f32) (w : FVec Ideal S128x128 .f32) :
    k0_pay4 (F := Ideal) x w = k0_pay3 (F := Ideal) x w := by
  funext y
  idx_vars y
  pointwise [k0_pay4]

end Cert.KernelIdeal.Hand
-- ==== Proof.Places.lean ====
/- The features and the attention as plain sums, and the host's top-k read at a place. -/
module

public import proofs.«01_k».proof.Proof.Rank
public import Idealize.ShloMosaic.Lib.StableHlo
public import Idealize.ShloMosaic.Lib.Pointwise

@[expose] public section

set_option maxRecDepth 16384

noncomputable section

namespace Cert.Rank

open Idealize.ShloMosaic

/-- The feature of node `q` at channel `k`: its row of `x` times row `k` of `w`, cut off below at zero. -/
def feat (x : FVec Ideal ⟨2, ![8192, 128]⟩ .f32) (w : FVec Ideal ⟨2, ![128, 128]⟩ .f32) (q : Fin 8192) (k : Fin 128) : EReal :=
  max (∑ j : Fin 128, x (ix2 q j) * w (ix2 k j)) 0

/-- The attention between nodes `q` and `p`: the product of their features. -/
def att (x : FVec Ideal ⟨2, ![8192, 128]⟩ .f32) (w : FVec Ideal ⟨2, ![128, 128]⟩ .f32) (q p : Fin 8192) : EReal :=
  ∑ k : Fin 128, feat x w q k * feat x w p k

/-- Attention is the same both ways. -/
theorem att_comm (x : FVec Ideal ⟨2, ![8192, 128]⟩ .f32) (w : FVec Ideal ⟨2, ![128, 128]⟩ .f32) (q p : Fin 8192) :
    att x w q p = att x w p q := Finset.sum_congr rfl fun _ _ => mul_comm _ _

/-- Attention is never negative. -/
theorem att_nonneg (x : FVec Ideal ⟨2, ![8192, 128]⟩ .f32) (w : FVec Ideal ⟨2, ![128, 128]⟩ .f32) (q p : Fin 8192) :
    0 ≤ att x w q p :=
  Finset.sum_nonneg fun _ _ => mul_nonneg (le_max_right _ _) (le_max_right _ _)

/-- Moving along a row of a table. -/
theorem along_row {n m : Nat} (q : Fin n) (p k : Fin m) :
    Shape.Idx.along (s := ⟨2, ![n, m]⟩) (ix2 q p) 1 k = ix2 q k := by
  funext d
  match d with
  | 0 => rfl
  | 1 => rfl

/-- Where the host's cut of a table's first `K` columns reads. -/
theorem cut_row {α : Type} {n K : Nat} (hK : K ≤ n) (y : (⟨2, ![n, n]⟩ : Shape).Idx → α)
    (h : (⟨2, ![n, n]⟩ : Shape).Slices (fun _ => 0) ⟨2, ![n, K]⟩) (q : Fin n) (i : Fin K) :
    extractStridedSlice (s := ⟨2, ![n, n]⟩) ⟨2, ![n, K]⟩ (fun _ => 0) y h (ix2 q i) = y (ix2 q (Fin.castLE hK i)) :=
  extractStridedSlice_apply (s := ⟨2, ![n, n]⟩) (t := ⟨2, ![n, K]⟩) _ _ _ _ _ (by
    intro d
    match d with
    | 0 => exact (Nat.zero_add _).symm
    | 1 => exact (Nat.zero_add _).symm)

/-- The first `K` of the host's ranking of each row: the values. -/
theorem topK_values {n K : Nat} (hK : K ≤ n) (a : FVec Ideal ⟨2, ![n, n]⟩ .f32)
    (h : (⟨2, ![n, n]⟩ : Shape).Slices (fun _ => 0) ⟨2, ![n, K]⟩) (q : Fin n) (i : Fin K) :
    (Host.topK (s := ⟨2, ![n, n]⟩) ⟨2, ![n, K]⟩ 1 (FloatOps.cmpfTotal (F := Ideal) (φ := .f32) .gt) a h).1 (ix2 q i)
      = a (ix2 q (order (fun p => a (ix2 q p)) (Fin.castLE hK i))) := by
  unfold Host.topK
  dsimp only
  refine (cut_row hK _ h q i).trans ?_
  unfold Host.sort2
  rw [dif_pos (by decide : 1 < 2)]
  refine (congrArg a (along_row q _ _)).trans ?_
  refine congrArg (fun k => a (ix2 q k)) ?_
  refine congrArg (fun R => sortedFrom R (Fin.castLE hK i)) ?_
  funext k k'
  exact congrArg₂ (fun u v => FloatOps.cmpfTotal (F := Ideal) (φ := .f32) .gt (a u) (a v) == 1#1) (along_row q _ k) (along_row q _ k')

/-- The first `K` of the host's ranking of each row: the places. -/
theorem topK_places {n K : Nat} (hK : K ≤ n) (a : FVec Ideal ⟨2, ![n, n]⟩ .f32)
    (h : (⟨2, ![n, n]⟩ : Shape).Slices (fun _ => 0) ⟨2, ![n, K]⟩) (q : Fin n) (i : Fin K) :
    (Host.topK (s := ⟨2, ![n, n]⟩) ⟨2, ![n, K]⟩ 1 (FloatOps.cmpfTotal (F := Ideal) (φ := .f32) .gt) a h).2 (ix2 q i)
      = BitVec.ofNat 32 (order (fun p => a (ix2 q p)) (Fin.castLE hK i)).val := by
  unfold Host.topK
  dsimp only
  refine (cut_row hK _ h q i).trans ?_
  unfold Host.sort2
  rw [dif_pos (by decide : 1 < 2)]
  dsimp only
  refine (dif_pos (by decide : 1 < 2)).trans ?_
  refine congrArg (BitVec.ofNat 32) ?_
  refine (congrArg (fun u : (⟨2, ![n, n]⟩ : Shape).Idx => (u 1).val) (along_row q _ _)).trans ?_
  refine congrArg (fun k : Fin n => k.val) ?_
  refine congrArg (fun R => sortedFrom R (Fin.castLE hK i)) ?_
  funext k k'
  exact congrArg₂ (fun u v => FloatOps.cmpfTotal (F := Ideal) (φ := .f32) .gt (a u) (a v) == 1#1) (along_row q _ k) (along_row q _ k')

/-- The greatest of each row, from a given start. -/
theorem max_row {n : Nat} (s : FVec Ideal ⟨2, ![n, n]⟩ .f32) (b : FVec Ideal ⟨0, ![]⟩ .f32)
    (h : (⟨2, ![n, n]⟩ : Shape).ReducesTo [1] ⟨1, ![n]⟩) (hu : 0 < (⟨0, ![]⟩ : Shape).numel) (q : Fin n) :
    Host.reduce (FloatOps.maximumf (F := Ideal) (φ := .f32)) s b h hu (ix1 q)
      = Finset.univ.fold max (b (Shape.Idx.first hu)) fun k => s (ix2 q k) := by
  have hr : (⟨2, ![n, n]⟩ : Shape).Reduces [1] ⟨1, ![n]⟩ := ⟨h.1, Nat.one_pos, h.2⟩
  refine (Host.reduce_eq_fold_single (a := (1 : Fin 2)) (FloatOps.maximumf (F := Ideal) (φ := .f32)) s b h hr hu (ix1 q)).trans ?_
  refine congrArg (fun f : Fin n → EReal => Finset.univ.fold max (b (Shape.Idx.first hu)) f) ?_
  funext k
  refine congrArg s ?_
  funext d
  match d with
  | 0 => rfl
  | 1 => rfl

end Cert.Rank
-- ==== Proof.Arrays.lean ====
/- What the two calls leave in their result arrays, read at a place. -/
module

public import proofs.«01_k».proof.Proof.CallsIdeal
public import proofs.«01_k».proof.Proof.Pure
public import proofs.«01_k».proof.Proof.Places
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Rank

variable (V : (c : Dev nD) → (b : Ref sig .tc) → Buf (Elt Ideal) ((c : Thread nD τ).loc b))

/-- The table of features. -/
def featTable (x : FVec Ideal S8192x128 .f32) (w : FVec Ideal S128x128 .f32) : FVec Ideal S8192x128 .f32 :=
  fun y => feat x w (y 0) (y 1)

/-- The last point of the first grid. -/
def last0 : Fin cfg0.N := ⟨63, by rw [show cfg0.N = 64 from N_0]; omega⟩

/-- Which blocks of the arrays the first call's windows hold. -/
theorem blocks0 : ∀ t : Fin grid0.N, (win0_0.index t 0 = 0 ∧ win0_0.index t 1 = 0) ∧ (win0_1.index t 0 = 0 ∧ win0_1.index t 1 = 0)
    ∧ (win0_3.index t 0 = t.val ∧ win0_3.index t 1 = 0) ∧ (win0_4.index t 0 = t.val ∧ win0_4.index t 1 = 0)
    ∧ (k0_off1 (grid0.coords t) 0 = 128 * t.val ∧ k0_off1 (grid0.coords t) 1 = 0) := by decide +kernel

/-- Which blocks of the arrays the second call's windows hold. -/
theorem blocks1 : ∀ t : Fin grid1.N, (win1_0.index t 0 = 0 ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = t.val) := by decide +kernel

/-- The first call reads all of `x`. -/
theorem part0_x (c : Dev nD) (t : Fin cfg0.N) (q : Fin 8192) (k : Fin 128) :
    part0 V c 0 t (ix2 q k) = V c main_arg0 (ix2 q k) := by
  have h := blocks0 t
  blk_ext [part0, h]

/-- The first call reads all of `w`. -/
theorem part0_w (c : Dev nD) (t : Fin cfg0.N) (q : Fin 128) (k : Fin 128) :
    part0 V c 1 t (ix2 q k) = V c main_arg1 (ix2 q k) := by
  have h := blocks0 t
  blk_ext [part0, h]

/-- The features the first call computes. -/
theorem featOf_eq (c : Dev nD) : featOf V c = featTable (V c main_arg0) (V c main_arg1) := by
  funext y
  obtain ⟨q, k, rfl⟩ : ∃ (q : Fin 8192) (k : Fin 128), y = ix2 q k := ⟨y 0, y 1, eq_ix2 y⟩
  refine (features_at _ _ q k).trans ?_
  show max _ _ = max _ _
  refine congrArg (fun z : EReal => max z 0) (Finset.sum_congr rfl fun j _ => ?_)
  rw [part0_x, part0_w]
  rfl

/-- The scratch array holds the same features. -/
theorem scratchOf_eq (c : Dev nD) : scratchOf V c = featTable (V c main_arg0) (V c main_arg1) :=
  (scratch_eq _ _).trans (featOf_eq V c)

/-- The first result: the features. -/
theorem arr0_2 (c : Dev nD) : (dat0 V c).arrAt 2 cfg0.N = featTable (V c main_arg0) (V c main_arg1) := by
  refine (dat0 V c).arrAt_eq_of_after_last 2 last0 (by decide +kernel) _ fun j => ?_
  blk_simp
  rw [left0_2, featOf_eq]

/-- The rows a point reads as its columns. -/
theorem rowsAt_at (t : Fin grid0.N) (a : FVec Ideal S8192x128 .f32) (r k : Fin 128) :
    rowsAt (F := Ideal) (grid0.coords t) a (ix2 r k) = a (ix2 ⟨128 * t.val + r.val, by have := t.isLt; have e : grid0.N = 64 := N_0; have := r.isLt; omega⟩ k) := by
  have h := (blocks0 t).2.2.2.2
  pointwise [rowsAt]
  have e₁ : (⟨k0_off1 (grid0.coords t) 0 + r.val, by have := t.isLt; have e : grid0.N = 64 := N_0; have := r.isLt; omega⟩ : Fin 8192)
      = ⟨128 * t.val + r.val, by have := t.isLt; have e : grid0.N = 64 := N_0; have := r.isLt; omega⟩ := Fin.ext (by show _ + _ = _ + _; rw [h.1])
  have e₂ : (⟨k0_off1 (grid0.coords t) 1 + k.val, by rw [h.2, Nat.zero_add]; exact k.isLt⟩ : Fin 128) = k :=
    Fin.ext (by show _ + _ = _; rw [h.2, Nat.zero_add])
  exact congrArg₂ (fun p u => a (ix2 p u)) e₁ e₂

/-- The scores of the columns of point `t`: the attentions of node `128 t + r`. -/
theorem scores_eq (x : FVec Ideal S8192x128 .f32) (w : FVec Ideal S128x128 .f32) (t : Fin grid0.N) (r : Fin 128) (n : Fin 8192)
    (hn : n.val = 128 * t.val + r.val) :
    colScores (featTable x w) (rowsAt (F := Ideal) (grid0.coords t) (featTable x w)) r = att x w n := by
  funext p
  rw [att_comm]
  refine Finset.sum_congr rfl fun j _ => ?_
  rw [rowsAt_at]
  have e : (⟨128 * t.val + r.val, hn ▸ n.isLt⟩ : Fin 8192) = n := Fin.ext hn.symm
  exact congrArg (fun u : Fin 8192 => feat x w p j * feat x w u j) e

/-- The table with a row's number all along the row. -/
def along (g : Fin 8192 → EReal) : FVec Ideal S8192x128 .f32 := fun y => g (y 0)

/-- The second result: the 32nd greatest attention of every node. -/
theorem arr0_3 (c : Dev nD) : (dat0 V c).arrAt 3 cfg0.N
    = along fun n => att (V c main_arg0) (V c main_arg1) n (pick (att (V c main_arg0) (V c main_arg1) n) 31) := by
  refine (dat0 V c).arrAt_eq_of_covers 3 _ (by decide +kernel) fun t hf y => ?_
  blk_simp
  rw [left0_3, scratchOf_eq]
  have h := (blocks0 t).2.2.1
  have hn : (((cfg0.win 3).blk t).view.emb y 0).val = 128 * t.val + (y 0).val := by
    blk_simp [h]; omega
  idx_vars y
  refine (floorOut_at _ _ _ _).trans ?_
  rw [scores_eq _ _ t _ _ hn]
  rfl

/-- The third result: the offset of every node. -/
theorem arr0_4 (c : Dev nD) : (dat0 V c).arrAt 4 cfg0.N
    = along fun n => offset (att (V c main_arg0) (V c main_arg1) n) := by
  refine (dat0 V c).arrAt_eq_of_covers 4 _ (by decide +kernel) fun t hf y => ?_
  blk_simp
  rw [left0_4, scratchOf_eq]
  have h := (blocks0 t).2.2.2.1
  have hn : (((cfg0.win 4).blk t).view.emb y 0).val = 128 * t.val + (y 0).val := by
    blk_simp [h]; omega
  idx_vars y
  refine (weightOut_at _ _ _ _).trans ?_
  rw [scores_eq _ _ t _ _ hn]
  rfl

/-- What the second call reads: all of the features. -/
theorem part1_0 (c : Dev nD) (t : Fin cfg1.N) (q : Fin 8192) (k : Fin 128) :
    part1 V c 0 t (ix2 q k) = V c main_v0_0 (ix2 q k) := by
  have h := blocks1 t
  blk_ext [part1, h]

/-- What the second call reads: the features of its 128 columns. -/
theorem part1_1 (c : Dev nD) (t : Fin cfg1.N) (r : Fin 128) (k : Fin 128) (n : Fin 8192) (hn : n.val = 128 * t.val + r.val) :
    part1 V c 1 t (ix2 r k) = V c main_v0_0 (ix2 n k) := by
  have h := blocks1 t
  blk_ext [part1, h]

/-- What the second call reads: all of the least kept scores. -/
theorem part1_2 (c : Dev nD) (t : Fin cfg1.N) (q : Fin 8192) (k : Fin 128) :
    part1 V c 2 t (ix2 q k) = V c main_v0_1 (ix2 q k) := by
  have h := blocks1 t
  blk_ext [part1, h]

/-- What the second call reads: all of the offsets. -/
theorem part1_3 (c : Dev nD) (t : Fin cfg1.N) (q : Fin 8192) (k : Fin 128) :
    part1 V c 3 t (ix2 q k) = V c main_v0_2 (ix2 q k) := by
  have h := blocks1 t
  blk_ext [part1, h]

/-- What the second body stores at a place, given what it reads there. -/
theorem weights_row (x : FVec Ideal S8192x128 .f32) (w : FVec Ideal S128x128 .f32) (a : FVec Ideal S8192x128 .f32)
    (b : FVec Ideal S128x128 .f32) (u v : FVec Ideal S8192x128 .f32) (q p : Fin 8192) (r : Fin 128)
    (ha : ∀ k : Fin 128, a (ix2 q k) = feat x w q k) (hb : ∀ k : Fin 128, b (ix2 r k) = feat x w p k)
    (hu : u (ix2 q r) = att x w q (pick (att x w q) 31)) (hv : v (ix2 q r) = offset (att x w q)) :
    k1_pay1 (F := Ideal) a b u v (ix2 q r) = kerRow (att x w q) p := by
  have hs : colScores a b r q = att x w q p := Finset.sum_congr rfl fun j _ => by rw [ha, hb]
  rw [weights_at, hs, hu, hv]
  rfl

/-- The last result: the kernel's rows. -/
theorem arr1_4 (c : Dev nD) (x : FVec Ideal S8192x128 .f32) (w : FVec Ideal S128x128 .f32)
    (h0 : V c main_v0_0 = featTable x w) (h1 : V c main_v0_1 = along fun n => att x w n (pick (att x w n) 31))
    (h2 : V c main_v0_2 = along fun n => offset (att x w n)) :
    (dat1 V c).arrAt 4 cfg1.N = fun y : S8192x8192.Idx => kerRow (att x w (y 0)) (y 1) := by
  refine (dat1 V c).arrAt_eq_of_covers 4 _ (by decide +kernel) fun t hf y => ?_
  blk_simp
  rw [left1_4]
  have h := (blocks1 t).2.2.2.2
  have hq : ((cfg1.win 4).blk t).view.emb y 0 = y 0 := Fin.ext (by blk_simp [h])
  have hp : (((cfg1.win 4).blk t).view.emb y 1).val = 128 * t.val + (y 1).val := by
    blk_simp [h]; omega
  idx_vars y
  have key : ∀ q p : Fin 8192, q = y0 → p.val = 128 * t.val + y1.val →
      k1_pay1 (F := Ideal) (part1 V c 0 t) (part1 V c 1 t) (part1 V c 2 t) (part1 V c 3 t) (ix2 y0 y1) = kerRow (att x w q) p := by
    rintro q p rfl hp
    exact weights_row x w _ _ _ _ q p y1 (fun k => (part1_0 V c t q k).trans (congrFun h0 (ix2 q k)))
      (fun k => (part1_1 V c t y1 k p hp).trans (congrFun h0 (ix2 p k)))
      ((part1_2 V c t q y1).trans (congrFun h1 (ix2 q y1))) ((part1_3 V c t q y1).trans (congrFun h2 (ix2 q y1)))
  exact key _ _ hq hp

end Cert.KernelIdeal.Hand
-- ==== Proof.Ref.lean ====
/- The reference's result read at a place: the softmax of the row with all but its 32 greatest attentions masked out. -/
module

public import proofs.«01_k».proof.Proof.Gen.ReferenceIdeal.Run
public import proofs.«01_k».proof.Proof.Places
public import proofs.«01_k».proof.Proof.RowMath
public import Idealize.ShloMosaic.Lib.Routing.OpsSet
public import Idealize.ShloMosaic.Lib.Tactic.CleanTypes

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Rank

/-- The node features, as the reference's operations compose them. -/
def features (x : FVec Ideal S8192x128 .f32) (w : FVec Ideal S128x128 .f32) : FVec Ideal S8192x128 .f32 :=
  maximumf (Host.dotGeneral dot_S8192x128_S128x128_S8192x128_1_0_0_1_n_n none x (transpose S128x128 [1, 0] w transposes_S128x128_S128x128_1_0))
    (broadcastInDim S8192x128 ![] bcast_S_S8192x128 (constant S_ .f32 0x00000000#32))

/-- The attention table of the features. -/
def table (f : FVec Ideal S8192x128 .f32) : FVec Ideal S8192x8192 .f32 :=
  Host.divf (Host.dotGeneral dot_S8192x128_S128x8192_S8192x8192_1_0_0_1_n_n none f (transpose S128x8192 [1, 0] f transposes_S8192x128_S128x8192_1_0))
    (broadcastInDim S8192x8192 ![] bcast_S_S8192x8192 (constant S_ .f32 0x3F800000#32))

/-- The row numbers, as the indexed update takes them. -/
def rowNos : IVec S8192x1 32 := broadcastInDim S8192x1 ![0] bcast_S8192_S8192x1_0 (iotaInDim S8192 32 0)

/-- The row numbers, one for each of the 32 places taken from a row. -/
def rowPlaces : IVec S8192x32x1 32 :=
  broadcastInDim S8192x32x1 ![0, 1] bcast_S8192x32_S8192x32x1_0_1 (broadcastInDim S8192x32 ![0, 1] bcast_S8192x1_S8192x32_0_1
    (select (cmpi .slt rowNos (broadcastInDim S8192x1 ![] bcast_S_S8192x1 (constantI S_ 32 0#32)))
      (addi rowNos (broadcastInDim S8192x1 ![] bcast_S_S8192x1 (constantI S_ 32 8192#32))) rowNos))

/-- The column numbers of the 32 places taken from each row. -/
def colPlaces (k : IVec S8192x32 32) : IVec S8192x32x1 32 :=
  broadcastInDim S8192x32x1 ![0, 1] bcast_S8192x32_S8192x32x1_0_1
    (select (cmpi .slt k (broadcastInDim S8192x32 ![] bcast_S_S8192x32 (constantI S_ 32 0#32)))
      (addi k (broadcastInDim S8192x32 ![] bcast_S_S8192x32 (constantI S_ 32 8192#32))) k)

/-- The places, row and column together. -/
def places (k : IVec S8192x32 32) : IVec S8192x32x2 32 :=
  concatenate S8192x32x2 2 [⟨S8192x32x1, rowPlaces⟩, ⟨S8192x32x1, colPlaces k⟩] concatenates_S8192x32x1_S8192x32x1_S8192x32x2_d2

/-- The table with everything masked out except the given values at the given places. -/
def masked (k : IVec S8192x32 32) (v : FVec Ideal S8192x32 .f32) : FVec Ideal S8192x8192 .f32 :=
  Host.scatter scatter_S8192x8192_S8192x32x2_S8192x32_n_01_01_2 (fun _ b => b)
    (broadcastInDim S8192x8192 ![] bcast_S_S8192x8192 (constant S_ .f32 0xFF800000#32)) (places k) v

/-- Exponentials of a table's entries less their row's entry in `v`, or less minus infinity where that is greater. -/
def powersLess (s : FVec Ideal S8192x8192 .f32) (v : FVec Ideal S8192 .f32) : FVec Ideal S8192x8192 .f32 :=
  Host.exp (subf s (broadcastInDim S8192x8192 ![0, 1] bcast_S8192x1_S8192x8192_0_1 (broadcastInDim S8192x1 ![0] bcast_S8192_S8192x1_0
    (maximumf (broadcastInDim S8192 ![] bcast_S_S8192 (constant S_ .f32 0xFF800000#32)) v))))

/-- Exponentials of a table's entries less their row's greatest. -/
def powers (s : FVec Ideal S8192x8192 .f32) : FVec Ideal S8192x8192 .f32 :=
  powersLess s (Host.reduce FloatOps.maximumf s (constant S_ .f32 0xFF800000#32) reducesTo_S8192x8192_S8192_d1 h_S_)

/-- A table's entries over their row's sum. -/
def shares (e : FVec Ideal S8192x8192 .f32) : FVec Ideal S8192x8192 .f32 :=
  Host.divf e (broadcastInDim S8192x8192 ![0, 1] bcast_S8192x1_S8192x8192_0_1 (broadcastInDim S8192x1 ![0] bcast_S8192_S8192x1_0
    (Host.reduceAdd e (constant S_ .f32 0x00000000#32) reducesTo_S8192x8192_S8192_d1 h_S_)))

/-- The host's 32 greatest of each row. -/
def greatest32 (a : FVec Ideal S8192x8192 .f32) : FVec Ideal S8192x32 .f32 × IVec S8192x32 32 :=
  Host.topK S8192x32 1 (FloatOps.cmpfTotal (F := Ideal) (φ := .f32) .gt) a sliceFits_S8192x8192_S8192x32

/-- The reference's second result, by these names. -/
theorem result_eq (m : (ℓ : Loc nD τ sig) → Buf (Elt Ideal) ℓ) (c : Dev nD) :
    Value.res_main_v35 m c
      = shares (powers (masked (greatest32 (table (features (m ((c.tc : Thread nD τ).loc main_arg0)) (m ((c.tc : Thread nD τ).loc main_arg1))))).2
          (greatest32 (table (features (m ((c.tc : Thread nD τ).loc main_arg0)) (m ((c.tc : Thread nD τ).loc main_arg1))))).1)) := rfl

/-- The features at a node and channel. -/
theorem features_at (x : FVec Ideal S8192x128 .f32) (w : FVec Ideal S128x128 .f32) (q : Fin 8192) (k : Fin 128) :
    features x w (ix2 q k) = feat x w q k := by
  pointwise [features, feat]

/-- A quotient by one. -/
theorem div_one' (y : EReal) : Ideal.div y 1 = y := by
  rw [Ideal.div, if_neg one_ne_zero, inv_one, mul_one]

/-- The attention table at a pair of nodes. -/
theorem table_at (x : FVec Ideal S8192x128 .f32) (w : FVec Ideal S128x128 .f32) (q p : Fin 8192) :
    table (features x w) (ix2 q p) = att x w q p := by
  pointwise [table]
  rw [div_one']
  exact Finset.sum_congr rfl fun k _ => by rw [features_at, features_at]

/-- The row number at a place. -/
theorem places_row (k : IVec S8192x32 32) (q : Fin 8192) (i : Fin 32) :
    places k (ix3 q i 0) = BitVec.ofNat 32 q.val := by
  pointwise [places, rowPlaces, rowNos]
  exact Routing.wrap_of_lt _ _ (by rw [BitVec.toNat_ofNat]; have := q.isLt; omega)

/-- The column number at a place, if it is not negative as a signed number. -/
theorem places_col (k : IVec S8192x32 32) (q : Fin 8192) (i : Fin 32) (h : (k (ix2 q i)).toNat < 8192) :
    places k (ix3 q i 1) = k (ix2 q i) := by
  pointwise [places, colPlaces]
  exact Routing.wrap_of_lt _ _ (by omega)

/-- The bit pattern of minus infinity. -/
theorem minus_inf : Ideal.ofBits .f32 0xFF800000#32 = (⊥ : EReal) := by simp [Ideal.ofBits, Ideal.ieee]

/-- Powers less a given column. -/
theorem powersLess_at (s : FVec Ideal S8192x8192 .f32) (v : FVec Ideal S8192 .f32) (q p : Fin 8192) :
    powersLess s v (ix2 q p) = Ideal.exp (s (ix2 q p) - max (Ideal.ofBits .f32 0xFF800000#32) (v (ix1 q))) := by
  pointwise [powersLess]

/-- The powers at a place. -/
theorem powers_at (s : FVec Ideal S8192x8192 .f32) (q p : Fin 8192) :
    powers s (ix2 q p) = Ideal.exp (s (ix2 q p) - max ⊥ (Finset.univ.fold max ⊥ fun k => s (ix2 q k))) := by
  unfold powers
  rw [powersLess_at, minus_inf]
  refine congrArg (fun y : EReal => Ideal.exp (s (ix2 q p) - max ⊥ y)) ?_
  refine (max_row s _ _ _ q).trans ?_
  show Finset.univ.fold max (Ideal.ofBits .f32 0xFF800000#32) _ = _
  rw [minus_inf]

/-- The shares at a place. -/
theorem shares_at (e : FVec Ideal S8192x8192 .f32) (q p : Fin 8192) :
    shares e (ix2 q p) = Ideal.div (e (ix2 q p)) (0 + ∑ k : Fin 8192, e (ix2 q k)) := by
  pointwise [shares]

/-- The masked table: the greatest 32 of a row stay, the others are minus infinity. -/
theorem masked_at (a : FVec Ideal S8192x8192 .f32) (q p : Fin 8192) :
    masked (greatest32 a).2 (greatest32 a).1 (ix2 q p) = dense (fun k => a (ix2 q k)) p := by
  have hv : ∀ (r : Fin 8192) (i : Fin 32), (greatest32 a).1 (ix2 r i) = a (ix2 r (pick (fun k => a (ix2 r k)) i)) :=
    fun r i => topK_values (by decide) a _ r i
  have hk : ∀ (r : Fin 8192) (i : Fin 32), (greatest32 a).2 (ix2 r i) = BitVec.ofNat 32 (pick (fun k => a (ix2 r k)) i).val :=
    fun r i => topK_places (by decide) a _ r i
  have hlt : ∀ (r : Fin 8192) (i : Fin 32), ((greatest32 a).2 (ix2 r i)).toNat < 8192 := fun r i => by
    rw [hk, BitVec.toNat_ofNat]; have := (pick (fun k => a (ix2 r k)) i).isLt; omega
  have hint : ∀ u : Fin 8192, (BitVec.ofNat 32 u.val).toInt = u.val := fun u => by
    have := u.isLt
    rw [BitVec.toInt_eq_toNat_of_lt (by rw [BitVec.toNat_ofNat]; omega), BitVec.toNat_ofNat, Nat.mod_eq_of_lt (by omega)]
  have hland : ∀ (r : Fin 8192) (i : Fin 32),
      scatter_S8192x8192_S8192x32x2_S8192x32_n_01_01_2.resultIdx? (ix2 r i) (places (greatest32 a).2) = some (ix2 q p)
        ↔ r = q ∧ pick (fun k => a (ix2 r k)) i = p := fun r i => by
    refine (Routing.scatter_lands2 scatter_S8192x8192_S8192x32x2_S8192x32_n_01_01_2 rfl rfl rfl (places (greatest32 a).2) r i q p).trans ?_
    show ((places (greatest32 a).2 (ix3 r i 0)).toInt = _ ∧ (places (greatest32 a).2 (ix3 r i 1)).toInt = _) ↔ _
    rw [places_row, places_col _ _ _ (hlt r i), hk, hint, hint]
    constructor
    · rintro ⟨h₁, h₂⟩; exact ⟨Fin.ext (by exact_mod_cast h₁), Fin.ext (by exact_mod_cast h₂)⟩
    · rintro ⟨h₁, h₂⟩; rw [h₁, ← h₂, h₁]; exact ⟨rfl, rfl⟩
  unfold masked dense
  split
  · rename_i h
    obtain ⟨i, hi⟩ := h
    refine Routing.scatter_set_hit _ _ _ _ _ _ (fun u hu => ?_) (ix2 q i) ((hland q i).mpr ⟨rfl, hi⟩)
    obtain ⟨r, j, rfl⟩ : ∃ (r : Fin 8192) (j : Fin 32), u = ix2 r j := ⟨u 0, u 1, eq_ix2 u⟩
    obtain ⟨h₁, h₂⟩ := (hland _ _).mp hu
    rw [hv, h₂, h₁]
  · rename_i h
    refine (Routing.scatter_set_miss _ _ _ _ _ (fun u hu => ?_)).trans minus_inf
    obtain ⟨r, j, rfl⟩ : ∃ (r : Fin 8192) (j : Fin 32), u = ix2 r j := ⟨u 0, u 1, eq_ix2 u⟩
    obtain ⟨h₁, h₂⟩ := (hland _ _).mp hu
    rw [h₁] at h₂
    exact h ⟨_, h₂⟩

/-- THE REFERENCE, at a place: the softmax of the masked row. -/
theorem result_at (m : (ℓ : Loc nD τ sig) → Buf (Elt Ideal) ℓ) (c : Dev nD) (q p : Fin 8192) :
    Value.res_main_v35 m c (ix2 q p)
      = refRow (att (m ((c.tc : Thread nD τ).loc main_arg0)) (m ((c.tc : Thread nD τ).loc main_arg1)) q) p := by
  rw [result_eq, shares_at]
  have hrow : (fun k => table (features (m ((c.tc : Thread nD τ).loc main_arg0)) (m ((c.tc : Thread nD τ).loc main_arg1))) (ix2 q k))
      = att (m ((c.tc : Thread nD τ).loc main_arg0)) (m ((c.tc : Thread nD τ).loc main_arg1)) q := funext fun k => table_at _ _ q k
  simp only [powers_at, masked_at, hrow]
  rfl

end Cert.ReferenceIdeal.Hand
-- ==== Proof.PreFacts.lean ====
/- The shape conditions of the precondition. -/
module

public import proofs.«01_k».proof.Pre_no_tie_and_finite

@[expose] public section

namespace Cert.Hand

open Idealize.ShloMosaic

/-- The shape conditions that the precondition's own operations ask for. -/
instance preFacts : Cert.Pre_no_tie_and_finite.Facts where
  transposes_S128x128_S128x128_1_0 := by decide
  bcast_S_S8192x128 := by decide
  transposes_S8192x128_S128x8192_1_0 := by decide
  sliceFits_S8192x8192_S8192x33 := by decide
  slices_S8192x33_S8192x1_0_32 := by decide
  shapeCasts_S8192x1_S8192 := by decide
  slices_S8192x33_S8192x1_0_31 := by decide
  slices_S8192x33_S8192x1_0_0 := by decide
  bcast_S_S8192 := by decide
  dot_S8192x128_S128x128_S8192x128_1_0_0_1_n_n_wf := by decide
  dot_S8192x128_S128x8192_S8192x8192_1_0_0_1_n_n_wf := by decide

end Cert.Hand

end
-- ==== Proof.PreRead.lean ====
/- The precondition, read: in every row of the attention table the 33rd greatest value lies below the 32nd, and the greatest is finite. -/
module

public import proofs.«01_k».proof.Proof.PreFacts
public import proofs.«01_k».proof.Proof.Places

@[expose] public section

set_option maxRecDepth 16384

noncomputable section

namespace Cert.Hand

open Cert.Pre_no_tie_and_finite Cert.Pre_no_tie_and_finite.Facts Idealize.ShloMosaic Cert.Rank

/-- The precondition's features. -/
def preFeat (x : FVec Ideal S8192x128 .f32) (w : FVec Ideal S128x128 .f32) : FVec Ideal S8192x128 .f32 :=
  maximumf (Host.dotGeneral dot_S8192x128_S128x128_S8192x128_1_0_0_1_n_n none x (transpose S128x128 [1, 0] w transposes_S128x128_S128x128_1_0))
    (broadcastInDim S8192x128 ![] bcast_S_S8192x128 (constant S_ .f32 0x00000000#32))

/-- The precondition's attention table. -/
def preTable (f : FVec Ideal S8192x128 .f32) : FVec Ideal S8192x8192 .f32 :=
  Host.dotGeneral dot_S8192x128_S128x8192_S8192x8192_1_0_0_1_n_n none f (transpose S128x8192 [1, 0] f transposes_S8192x128_S128x8192_1_0)

/-- The precondition's 33 greatest values of each row. -/
def preTop (a : FVec Ideal S8192x8192 .f32) : FVec Ideal S8192x33 .f32 :=
  (Host.topK S8192x33 1 (FloatOps.cmpfTotal (F := Ideal) (φ := .f32) .gt) a sliceFits_S8192x8192_S8192x33).1

/-- The precondition's two comparisons. -/
def preCompare (v : FVec Ideal S8192x33 .f32) : IVec S8192 1 :=
  andi (cmpf .olt (shapeCast S8192 (extractStridedSlice S8192x1 ![0, 32] v slices_S8192x33_S8192x1_0_32) shapeCasts_S8192x1_S8192)
      (shapeCast S8192 (extractStridedSlice S8192x1 ![0, 31] v slices_S8192x33_S8192x1_0_31) shapeCasts_S8192x1_S8192))
    (cmpf .olt (shapeCast S8192 (extractStridedSlice S8192x1 ![0, 0] v slices_S8192x33_S8192x1_0_0) shapeCasts_S8192x1_S8192)
      (broadcastInDim S8192 ![] bcast_S_S8192 (constant S_ .f32 0x7F800000#32)))

/-- The precondition by these names. -/
theorem pre_eq (x : FVec Ideal S8192x128 .f32) (w : FVec Ideal S128x128 .f32) :
    fn (F := Ideal) x w = preCompare (preTop (preTable (preFeat x w))) := rfl

/-- Its features at a node and channel. -/
theorem preFeat_at (x : FVec Ideal S8192x128 .f32) (w : FVec Ideal S128x128 .f32) (q : Fin 8192) (k : Fin 128) :
    preFeat x w (ix2 q k) = feat x w q k := by
  pointwise [preFeat, feat]

/-- Its attention table at a pair of nodes. -/
theorem preTable_at (x : FVec Ideal S8192x128 .f32) (w : FVec Ideal S128x128 .f32) (q p : Fin 8192) :
    preTable (preFeat x w) (ix2 q p) = att x w q p := by
  pointwise [preTable]
  exact Finset.sum_congr rfl fun k _ => by rw [preFeat_at, preFeat_at]

/-- The bit pattern of plus infinity. -/
theorem plus_inf : Ideal.ofBits .f32 0x7F800000#32 = (⊤ : EReal) := by simp [Ideal.ofBits, Ideal.ieee]

/-- The two comparisons at a row. -/
theorem preCompare_at (v : FVec Ideal S8192x33 .f32) (q : Fin 8192) (h : preCompare v (ix1 q) = 1#1) :
    v (ix2 q 32) < v (ix2 q 31) ∧ v (ix2 q 0) < ⊤ := by
  pointwise [preCompare] at h
  rw [plus_inf] at h
  by_cases h₁ : v (ix2 q 32) < v (ix2 q 31)
  · by_cases h₂ : v (ix2 q 0) < ⊤
    · exact ⟨h₁, h₂⟩
    · rw [decide_eq_false h₂, decide_eq_true h₁] at h; exact absurd h (by decide)
  · rw [decide_eq_false h₁] at h
    by_cases h₂ : v (ix2 q 0) < ⊤
    · rw [decide_eq_true h₂] at h; exact absurd h (by decide)
    · rw [decide_eq_false h₂] at h; exact absurd h (by decide)

/-- THE PRECONDITION, read at a row. -/
theorem pre_row (x : FVec Ideal S8192x128 .f32) (w : FVec Ideal S128x128 .f32) (h : fn (F := Ideal) x w = fun _ => 1#1) (q : Fin 8192) :
    att x w q (order (att x w q) 32) < att x w q (order (att x w q) 31) ∧ att x w q (order (att x w q) 0) < ⊤ := by
  have hrow : (fun k => preTable (preFeat x w) (ix2 q k)) = att x w q := funext fun k => preTable_at x w q k
  have hv : ∀ i : Fin 33, preTop (preTable (preFeat x w)) (ix2 q i) = att x w q (order (att x w q) (Fin.castLE (by decide) i)) := fun i => by
    refine (topK_values (by decide) _ _ q i).trans ?_
    rw [hrow, preTable_at]
  rw [pre_eq] at h
  have := preCompare_at _ q (congrFun h (ix1 q))
  rw [hv, hv, hv] at this
  exact this

end Cert.Hand
-- ==== Proof.Algebraic.lean ====
/- The value claim: the kernel and the reference leave the same two results. -/
module

public import proofs.«01_k».proof.Defs
public import proofs.«01_k».proof.Proof.Frames
public import proofs.«01_k».proof.Proof.Arrays
public import proofs.«01_k».proof.Proof.Ref
public import proofs.«01_k».proof.Proof.PreRead

@[expose] public section

set_option maxRecDepth 16384

noncomputable section

namespace Cert.KernelIdeal.Hand

open Cert.KernelIdeal Cert.KernelIdeal.Gen Idealize.ShloMosaic Idealize.ShloMosaic.TcCoe Idealize.SL.Sem
open Cert.Rank

variable (m : (ℓ : Loc nD τ sig) → Buf (Elt Ideal) ℓ) (ρ : Dev nD → PrngReg)

/-- The kernel's second result at the end: its rows over the attentions of the arguments. -/
theorem end_value (c : Dev nD) :
    memEnd m ρ c (Proc.devRef .tc main_v1) = fun y : S8192x8192.Idx =>
      kerRow (att (m ((c : Thread nD τ).loc main_arg0)) (m ((c : Thread nD τ).loc main_arg1)) (y 0)) (y 1) := by
  refine (end_arr m ρ c 4).trans ?_
  exact arr1_4 (seenMid m ρ) c (m ((c : Thread nD τ).loc main_arg0)) (m ((c : Thread nD τ).loc main_arg1))
    ((mid_arr m ρ c 2).trans (arr0_2 (seenStart m ρ) c)) ((mid_arr m ρ c 3).trans (arr0_3 (seenStart m ρ) c))
    ((mid_arr m ρ c 4).trans (arr0_4 (seenStart m ρ) c))

end Cert.KernelIdeal.Hand

namespace Cert.Hand

open Idealize.ShloMosaic Idealize.ShloMosaic.TcCoe Idealize.SL.Sem Cert.Rank

/-- THE VALUE CLAIM: from memories that agree on the arguments, where no row of the attention ties at its 32nd place and none is
    infinite, the kernel and the reference leave the same results. -/
theorem algebraic : Cert.algebraic_KernelIdeal_ReferenceIdeal_pre_no_tie_and_finite (hKernelIdeal := Cert.KernelIdeal.Gen.facts)
    (hReferenceIdeal := Cert.ReferenceIdeal.Gen.facts) (hPre_no_tie_and_finite := preFacts) := by
  intro m g m' g' hpre hagree
  refine ⟨fun c => m ((c.tc : Thread Cert.KernelIdeal.nD Cert.KernelIdeal.τ).loc Cert.KernelIdeal.main_arg0),
    fun c => Cert.KernelIdeal.Hand.memEnd m g c (Proc.devRef .tc Cert.KernelIdeal.main_v1), ?_, ?_⟩
  · refine (θ_run _ _ _).mono (fun r h c => ?_) (Cert.KernelIdeal.Hand.kernel_run m g)
    obtain ⟨h₀, h₁, h₂⟩ := h.1 c
    exact ⟨h₀, h₂, h₀, h₁⟩
  · refine (θ_run _ _ _).mono (fun r h c => ?_) (Cert.ReferenceIdeal.Value.run m' g')
    obtain ⟨h₀, h₁, h₂, h₃⟩ := h c
    refine ⟨h₀.trans (hagree c).1, h₁.trans ?_, h₂, h₃⟩
    refine Eq.trans ?_ (Cert.KernelIdeal.Hand.end_value m g c).symm
    funext y
    obtain ⟨q, p, rfl⟩ : ∃ q p : Fin 8192, y = ix2 q p := ⟨y 0, y 1, eq_ix2 y⟩
    refine (Cert.ReferenceIdeal.Hand.result_at m' c q p).trans ?_
    rw [(hagree c).1, (hagree c).2]
    obtain ⟨hgap, hfin⟩ := pre_row _ _ (hpre c) q
    exact (row_eq _ (att_nonneg _ _ q) hgap hfin p).symm

end Cert.Hand
-- ==== Proof.lean ====
/- The claim, put together from the modules that prove its parts. -/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts, Cert.Hand.preFacts,
    Cert.Hand.kernel_frame, fun m ρ _ => Cert.Hand.ideal_frame m ρ, fun m ρ _ => Cert.Hand.ideal_frame m ρ,
    fun m ρ _ => Cert.Hand.reference_frame m ρ, fun m ρ _ => Cert.Hand.reference_frame m ρ, Cert.Hand.kernel_ideal, Cert.Hand.algebraic⟩

end Cert.Proof

end
